-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "score_scale" .f32 0x3E38AA3B#32 (((8 * (Real.log 2))⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨4, ![2, 256, 8, 64]⟩ ⟨4, ![2, 2048, 8, 64]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 256, 8, 64]⟩ ⟨4, ![2, 2048, 8, 64]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 8, 64]⟩ ⟨4, ![2, 2048, 8, 64]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨4, ![2, 256, 8, 64]⟩ ⟨4, ![2, 2048, 8, 64]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x8x64 : Shape := ⟨4, ![2, 256, 8, 64]⟩
abbrev S_ : Shape := ⟨0, ![]⟩

class Facts : Prop where
  bitsLt_bf16_f32 : FTy.bits .bf16 < FTy.bits .f32
  bcast_S_S2x256x8x64 : S_.BroadcastsInDim S2x256x8x64 (![] : Fin 0 → Fin S2x256x8x64.rank)

variable [Facts]

def fn {F : FTy → Type} [FloatOps F] (main_arg0 : FVec F S2x256x8x64 .bf16) (main_arg1 : FVec F S2x256x8x64 .bf16) (main_arg2 : FVec F S2x256x8x64 .bf16) : IVec S2x256x8x64 1 × IVec S2x256x8x64 1 :=
  let main_v0 : FVec F S2x256x8x64 .f32 := (extf .f32 · bitsLt_bf16_f32) main_arg0
  let main_v1 : FVec F S2x256x8x64 .f32 := Host.absf main_v0
  let main_cst : FVec F S_ .f32 := constant S_ .f32 0x7F800000#32
  let main_v2 : FVec F S2x256x8x64 .f32 := broadcastInDim S2x256x8x64 ![] bcast_S_S2x256x8x64 main_cst
  let main_v3 : IVec S2x256x8x64 1 := cmpf .olt main_v1 main_v2
  let main_v4 : FVec F S2x256x8x64 .f32 := (extf .f32 · bitsLt_bf16_f32) main_arg1
  let main_v5 : FVec F S2x256x8x64 .f32 := Host.absf main_v4
  let main_cst_0 : FVec F S_ .f32 := constant S_ .f32 0x7F800000#32
  let main_v6 : FVec F S2x256x8x64 .f32 := broadcastInDim S2x256x8x64 ![] bcast_S_S2x256x8x64 main_cst_0
  let main_v7 : IVec S2x256x8x64 1 := cmpf .olt main_v5 main_v6
  (main_v3, main_v7)
-- ==== Pre_finite_scores_ReferenceIdeal.lean ====
abbrev S2x2048x8x64 : Shape := ⟨4, ![2, 2048, 8, 64]⟩
abbrev S_ : Shape := ⟨0, ![]⟩

class Facts : Prop where
  bitsLt_bf16_f32 : FTy.bits .bf16 < FTy.bits .f32
  bcast_S_S2x2048x8x64 : S_.BroadcastsInDim S2x2048x8x64 (![] : Fin 0 → Fin S2x2048x8x64.rank)

variable [Facts]

def fn {F : FTy → Type} [FloatOps F] (main_arg0 : FVec F S2x2048x8x64 .bf16) (main_arg1 : FVec F S2x2048x8x64 .bf16) (main_arg2 : FVec F S2x2048x8x64 .bf16) : IVec S2x2048x8x64 1 × IVec S2x2048x8x64 1 :=
  let main_v0 : FVec F S2x2048x8x64 .f32 := (extf .f32 · bitsLt_bf16_f32) main_arg0
  let main_v1 : FVec F S2x2048x8x64 .f32 := Host.absf main_v0
  let main_cst : FVec F S_ .f32 := constant S_ .f32 0x7F800000#32
  let main_v2 : FVec F S2x2048x8x64 .f32 := broadcastInDim S2x2048x8x64 ![] bcast_S_S2x2048x8x64 main_cst
  let main_v3 : IVec S2x2048x8x64 1 := cmpf .olt main_v1 main_v2
  let main_v4 : FVec F S2x2048x8x64 .f32 := (extf .f32 · bitsLt_bf16_f32) main_arg1
  let main_v5 : FVec F S2x2048x8x64 .f32 := Host.absf main_v4
  let main_cst_0 : FVec F S_ .f32 := constant S_ .f32 0x7F800000#32
  let main_v6 : FVec F S2x2048x8x64 .f32 := broadcastInDim S2x2048x8x64 ![] bcast_S_S2x2048x8x64 main_cst_0
  let main_v7 : IVec S2x2048x8x64 1 := cmpf .olt main_v5 main_v6
  (main_v3, main_v7)
-- ==== Kernel.lean ====
abbrev S2x256x8x64 : Shape := ⟨4, ![2, 256, 8, 64]⟩
abbrev S2x8x256x64 : Shape := ⟨4, ![2, 8, 256, 64]⟩
abbrev S16x256x64 : Shape := ⟨3, ![16, 256, 64]⟩
abbrev S16x1x256x64 : Shape := ⟨4, ![16, 1, 256, 64]⟩
abbrev S16x2x256x64 : Shape := ⟨4, ![16, 2, 256, 64]⟩
abbrev S8x16x2x256x64 : Shape := ⟨5, ![8, 16, 2, 256, 64]⟩
abbrev S3x7 : Shape := ⟨2, ![3, 7]⟩
abbrev S_ : Shape := ⟨0, ![]⟩
abbrev S1x16x2x256x64 : Shape := ⟨5, ![1, 16, 2, 256, 64]⟩
abbrev S1x1 : Shape := ⟨2, ![1, 1]⟩
abbrev S1x6x2x256x64 : Shape := ⟨5, ![1, 6, 2, 256, 64]⟩
abbrev S6x2x256x64 : Shape := ⟨4, ![6, 2, 256, 64]⟩
abbrev S1x5x2x256x64 : Shape := ⟨5, ![1, 5, 2, 256, 64]⟩
abbrev S5x2x256x64 : Shape := ⟨4, ![5, 2, 256, 64]⟩
abbrev S1x256x64 : Shape := ⟨3, ![1, 256, 64]⟩
abbrev S256x64 : Shape := ⟨2, ![256, 64]⟩
abbrev S1x1x1x256x64 : Shape := ⟨5, ![1, 1, 1, 256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 4
  | .smem => 0
  | _ => 0

abbrev bufTy : (tb : Table) → Fin (tcTables nBuf tb) → BufTy
  | .hbm, ⟨0, _⟩ => ⟨S2x256x8x64, .bf16⟩
  | .hbm, ⟨1, _⟩ => ⟨S2x256x8x64, .bf16⟩
  | .hbm, ⟨2, _⟩ => ⟨S2x256x8x64, .bf16⟩
  | .hbm, ⟨3, _⟩ => ⟨S2x8x256x64, .bf16⟩
  | .hbm, ⟨4, _⟩ => ⟨S16x256x64, .bf16⟩
  | .hbm, ⟨5, _⟩ => ⟨S2x8x256x64, .bf16⟩
  | .hbm, ⟨6, _⟩ => ⟨S16x256x64, .bf16⟩
  | .hbm, ⟨7, _⟩ => ⟨S2x8x256x64, .bf16⟩
  | .hbm, ⟨8, _⟩ => ⟨S16x256x64, .bf16⟩
  | .hbm, ⟨9, _⟩ => ⟨S16x1x256x64, .bf16⟩
  | .hbm, ⟨10, _⟩ => ⟨S16x1x256x64, .bf16⟩
  | .hbm, ⟨11, _⟩ => ⟨S16x2x256x64, .bf16⟩
  | .hbm, ⟨12, _⟩ => ⟨S16x256x64, .f32⟩
  | .hbm, ⟨13, _⟩ => ⟨S2x8x256x64, .f32⟩
  | .hbm, ⟨14, _⟩ => ⟨S2x256x8x64, .f32⟩
  | .local _ .vmem, ⟨0, _⟩ => ⟨S16x256x64, .bf16⟩
  | .local _ .vmem, ⟨1, _⟩ => ⟨S16x2x256x64, .bf16⟩
  | .local _ .vmem, ⟨2, _⟩ => ⟨S16x256x64, .f32⟩
  | .local _ .vmem, ⟨3, _⟩ => ⟨S8x16x2x256x64, .bf16⟩
  | _, _ => ⟨S2x256x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v18 : BitVec 32 := Scalar.xori v2 c1_i32_18
  let c1_i32_25 : BitVec 32 := 1#32
  let v19 : BitVec 32 := Scalar.muli v18 c1_i32_25
  let v20 : BitVec 32 := Scalar.addi c0_i32_26 v19
  v20.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_35 : BitVec 32 := 3#32
  let v29 : BitVec 32 := Scalar.xori v2 c3_i32_35
  let c1_i32_42 : BitVec 32 := 1#32
  let v30 : BitVec 32 := Scalar.muli v29 c1_i32_42
  let v31 : BitVec 32 := Scalar.addi c0_i32_43 v30
  v31.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_51 : BitVec 32 := 4#32
  let v40 : BitVec 32 := Scalar.xori v2 c4_i32_51
  let c1_i32_57 : BitVec 32 := 1#32
  let v41 : BitVec 32 := Scalar.muli v40 c1_i32_57
  let v42 : BitVec 32 := Scalar.addi c0_i32_58 v41
  v42.toNat
def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v75 : BitVec 32 := Scalar.xori v2 c3_i32_114
  let c1_i32_121 : BitVec 32 := 1#32
  let v76 : BitVec 32 := Scalar.muli v75 c1_i32_121
  let v77 : BitVec 32 := Scalar.addi c0_i32_122 v76
  v77.toNat
def k0_dev8 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_131 : BitVec 32 := 3#32
  let v86 : BitVec 32 := Scalar.xori v2 c3_i32_131
  let c1_i32_138 : BitVec 32 := 1#32
  let v87 : BitVec 32 := Scalar.muli v86 c1_i32_138
  let v88 : BitVec 32 := Scalar.addi c0_i32_139 v87
  v88.toNat
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_148 : BitVec 32 := 4#32
  let v97 : BitVec 32 := Scalar.xori v2 c4_i32_148
  let c1_i32_155 : BitVec 32 := 1#32
  let v98 : BitVec 32 := Scalar.muli v97 c1_i32_155
  let v99 : BitVec 32 := Scalar.addi c0_i32_156 v98
  v99.toNat
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_165 : BitVec 32 := 4#32
  let v108 : BitVec 32 := Scalar.xori v2 c4_i32_165
  let c1_i32_171 : BitVec 32 := 1#32
  let v109 : BitVec 32 := Scalar.muli v108 c1_i32_171
  let v110 : BitVec 32 := Scalar.addi c0_i32_172 v109
  v110.toNat
def k0_dev11 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_181 : BitVec 32 := 1#32
  let v119 : BitVec 32 := Scalar.xori v2 c1_i32_181
  let c1_i32_188 : BitVec 32 := 1#32
  let v120 : BitVec 32 := Scalar.muli v119 c1_i32_188
  let v121 : BitVec 32 := Scalar.addi c0_i32_189 v120
  v121.toNat
def k0_dev12 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v130 : BitVec 32 := Scalar.xori v2 c1_i32_198
  let c1_i32_204 : BitVec 32 := 1#32
  let v131 : BitVec 32 := Scalar.muli v130 c1_i32_204
  let v132 : BitVec 32 := Scalar.addi c0_i32_205 v131
  v132.toNat
def k0_dev13 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_310 : BitVec 32 := 4#32
  let v189 : BitVec 32 := Scalar.xori v2 c4_i32_310
  let c1_i32_317 : BitVec 32 := 1#32
  let v190 : BitVec 32 := Scalar.muli v189 c1_i32_317
  let v191 : BitVec 32 := Scalar.addi c0_i32_318 v190
  v191.toNat
def k0_dev14 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_327 : BitVec 32 := 4#32
  let v200 : BitVec 32 := Scalar.xori v2 c4_i32_327
  let c1_i32_334 : BitVec 32 := 1#32
  let v201 : BitVec 32 := Scalar.muli v200 c1_i32_334
  let v202 : BitVec 32 := Scalar.addi c0_i32_335 v201
  v202.toNat
def k0_dev15 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_344 : BitVec 32 := 4#32
  let v211 : BitVec 32 := Scalar.xori v2 c4_i32_344
  let c1_i32_351 : BitVec 32 := 1#32
  let v212 : BitVec 32 := Scalar.muli v211 c1_i32_351
  let v213 : BitVec 32 := Scalar.addi c0_i32_352 v212
  v213.toNat
def k0_dev16 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_361 : BitVec 32 := 4#32
  let v222 : BitVec 32 := Scalar.xori v2 c4_i32_361
  let c1_i32_368 : BitVec 32 := 1#32
  let v223 : BitVec 32 := Scalar.muli v222 c1_i32_368
  let v224 : BitVec 32 := Scalar.addi c0_i32_369 v223
  v224.toNat
def k0_dev17 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_378 : BitVec 32 := 1#32
  let v233 : BitVec 32 := Scalar.xori v2 c1_i32_378
  let c1_i32_385 : BitVec 32 := 1#32
  let v234 : BitVec 32 := Scalar.muli v233 c1_i32_385
  let v235 : BitVec 32 := Scalar.addi c0_i32_386 v234
  v235.toNat
def k0_dev18 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_395 : BitVec 32 := 1#32
  let v244 : BitVec 32 := Scalar.xori v2 c1_i32_395
  let c1_i32_402 : BitVec 32 := 1#32
  let v245 : BitVec 32 := Scalar.muli v244 c1_i32_402
  let v246 : BitVec 32 := Scalar.addi c0_i32_403 v245
  v246.toNat
def k0_dev19 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_412 : BitVec 32 := 1#32
  let v255 : BitVec 32 := Scalar.xori v2 c1_i32_412
  let c1_i32_419 : BitVec 32 := 1#32
  let v256 : BitVec 32 := Scalar.muli v255 c1_i32_419
  let v257 : BitVec 32 := Scalar.addi c0_i32_420 v256
  v257.toNat
def k0_dev20 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_429 : BitVec 32 := 1#32
  let v266 : BitVec 32 := Scalar.xori v2 c1_i32_429
  let c1_i32_436 : BitVec 32 := 1#32
  let v267 : BitVec 32 := Scalar.muli v266 c1_i32_436
  let v268 : BitVec 32 := Scalar.addi c0_i32_437 v267
  v268.toNat
def k0_dev21 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_446 : BitVec 32 := 3#32
  let v277 : BitVec 32 := Scalar.xori v2 c3_i32_446
  let c1_i32_453 : BitVec 32 := 1#32
  let v278 : BitVec 32 := Scalar.muli v277 c1_i32_453
  let v279 : BitVec 32 := Scalar.addi c0_i32_454 v278
  v279.toNat
def k0_dev22 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_463 : BitVec 32 := 3#32
  let v288 : BitVec 32 := Scalar.xori v2 c3_i32_463
  let c1_i32_470 : BitVec 32 := 1#32
  let v289 : BitVec 32 := Scalar.muli v288 c1_i32_470
  let v290 : BitVec 32 := Scalar.addi c0_i32_471 v289
  v290.toNat
def k0_dev23 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_480 : BitVec 32 := 3#32
  let v299 : BitVec 32 := Scalar.xori v2 c3_i32_480
  let c1_i32_487 : BitVec 32 := 1#32
  let v300 : BitVec 32 := Scalar.muli v299 c1_i32_487
  let v301 : BitVec 32 := Scalar.addi c0_i32_488 v300
  v301.toNat
def k0_dev24 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_497 : BitVec 32 := 3#32
  let v310 : BitVec 32 := Scalar.xori v2 c3_i32_497
  let c1_i32_504 : BitVec 32 := 1#32
  let v311 : BitVec 32 := Scalar.muli v310 c1_i32_504
  let v312 : BitVec 32 := Scalar.addi c0_i32_505 v311
  v312.toNat
@[reducible] def k0_t1_loop : Scf.Loop 32 :=
  let c0_i32_1021 : BitVec 32 := 0#32
  let c16_i32 : BitVec 32 := 16#32
  let v543 : BitVec 32 := Scalar.addi c0_i32_1021 c16_i32
  let c1_i32_1022 : BitVec 32 := 1#32
  ⟨c0_i32_1021, v543, c1_i32_1022⟩
def k0_off1 (k0_t1 : Fin k0_t1_loop.trips) : Fin 3 → Nat :=
  let c0_i32_1021 : BitVec 32 := 0#32
  let c1_i32_1022 : BitVec 32 := 1#32
  let arg6 : BitVec 32 := Scf.iv c0_i32_1021 c1_i32_1022 k0_t1
  let v544 : Index := Scalar.indexCast arg6
  let c0_1024 : Index := 0#32
  let c0_1025 : Index := 0#32
  ![v544.toNat, 0, 0]
def k0_off2 (k0_t1 : Fin k0_t1_loop.trips) : Fin 5 → Nat :=
  let c0_1026 : Index := 0#32
  let c0_i32_1021 : BitVec 32 := 0#32
  let c1_i32_1022 : BitVec 32 := 1#32
  let arg6 : BitVec 32 := Scf.iv c0_i32_1021 c1_i32_1022 k0_t1
  let v547 : Index := Scalar.indexCast arg6
  let c0_1027 : Index := 0#32
  let c0_1028 : Index := 0#32
  let c0_1029 : Index := 0#32
  ![0, v547.toNat, 0, 0, 0]
def k0_off3 (k0_t1 : Fin k0_t1_loop.trips) : Fin 5 → Nat :=
  let c1 : Index := 1#32
  let c0_i32_1021 : BitVec 32 := 0#32
  let c1_i32_1022 : BitVec 32 := 1#32
  let arg6 : BitVec 32 := Scf.iv c0_i32_1021 c1_i32_1022 k0_t1
  let v550 : Index := Scalar.indexCast arg6
  let c0_1030 : Index := 0#32
  let c0_1031 : Index := 0#32
  let c0_1032 : Index := 0#32
  ![1, v550.toNat, 0, 0, 0]
def k0_off4 (k0_t1 : Fin k0_t1_loop.trips) : Fin 5 → Nat :=
  let c2 : Index := 2#32
  let c0_i32_1021 : BitVec 32 := 0#32
  let c1_i32_1022 : BitVec 32 := 1#32
  let arg6 : BitVec 32 := Scf.iv c0_i32_1021 c1_i32_1022 k0_t1
  let v553 : Index := Scalar.indexCast arg6
  let c0_1033 : Index := 0#32
  let c0_1034 : Index := 0#32
  let c0_1035 : Index := 0#32
  ![2, v553.toNat, 0, 0, 0]
def k0_off5 (k0_t1 : Fin k0_t1_loop.trips) : Fin 5 → Nat :=
  let c3 : Index := 3#32
  let c0_i32_1021 : BitVec 32 := 0#32
  let c1_i32_1022 : BitVec 32 := 1#32
  let arg6 : BitVec 32 := Scf.iv c0_i32_1021 c1_i32_1022 k0_t1
  let v556 : Index := Scalar.indexCast arg6
  let c0_1036 : Index := 0#32
  let c0_1037 : Index := 0#32
  let c0_1038 : Index := 0#32
  ![3, v556.toNat, 0, 0, 0]
def k0_off6 (k0_t1 : Fin k0_t1_loop.trips) : Fin 5 → Nat :=
  let c4 : Index := 4#32
  let c0_i32_1021 : BitVec 32 := 0#32
  let c1_i32_1022 : BitVec 32 := 1#32
  let arg6 : BitVec 32 := Scf.iv c0_i32_1021 c1_i32_1022 k0_t1
  let v559 : Index := Scalar.indexCast arg6
  let c0_1039 : Index := 0#32
  let c0_1040 : Index := 0#32
  let c0_1041 : Index := 0#32
  ![4, v559.toNat, 0, 0, 0]
def k0_off7 (k0_t1 : Fin k0_t1_loop.trips) : Fin 5 → Nat :=
  let c5 : Index := 5#32
  let c0_i32_1021 : BitVec 32 := 0#32
  let c1_i32_1022 : BitVec 32 := 1#32
  let arg6 : BitVec 32 := Scf.iv c0_i32_1021 c1_i32_1022 k0_t1
  let v562 : Index := Scalar.indexCast arg6
  let c0_1042 : Index := 0#32
  let c0_1043 : Index := 0#32
  let c0_1044 : Index := 0#32
  ![5, v562.toNat, 0, 0, 0]
def k0_off8 (k0_t1 : Fin k0_t1_loop.trips) : Fin 5 → Nat :=
  let c6 : Index := 6#32
  let c0_i32_1021 : BitVec 32 := 0#32
  let c1_i32_1022 : BitVec 32 := 1#32
  let arg6 : BitVec 32 := Scf.iv c0_i32_1021 c1_i32_1022 k0_t1
  let v565 : Index := Scalar.indexCast arg6
  let c0_1045 : Index := 0#32
  let c0_1046 : Index := 0#32
  let c0_1047 : Index := 0#32
  ![6, v565.toNat, 0, 0, 0]
def k0_off9 (k0_t1 : Fin k0_t1_loop.trips) : Fin 5 → Nat :=
  let c7 : Index := 7#32
  let c0_i32_1021 : BitVec 32 := 0#32
  let c1_i32_1022 : BitVec 32 := 1#32
  let arg6 : BitVec 32 := Scf.iv c0_i32_1021 c1_i32_1022 k0_t1
  let v568 : Index := Scalar.indexCast arg6
  let c0_1048 : Index := 0#32
  let c0_1049 : Index := 0#32
  let c0_1050 : Index := 0#32
  ![7, v568.toNat, 0, 0, 0]
def k0_off10 (k0_t1 : Fin k0_t1_loop.trips) : Fin 5 → Nat :=
  let c0_1051 : Index := 0#32
  let c0_i32_1021 : BitVec 32 := 0#32
  let c1_i32_1022 : BitVec 32 := 1#32
  let arg6 : BitVec 32 := Scf.iv c0_i32_1021 c1_i32_1022 k0_t1
  let v572 : Index := Scalar.indexCast arg6
  let c1_1052 : Index := 1#32
  let c0_1053 : Index := 0#32
  let c0_1054 : Index := 0#32
  ![0, v572.toNat, 1, 0, 0]
def k0_off11 (k0_t1 : Fin k0_t1_loop.trips) : Fin 5 → Nat :=
  let c1_1055 : Index := 1#32
  let c0_i32_1021 : BitVec 32 := 0#32
  let c1_i32_1022 : BitVec 32 := 1#32
  let arg6 : BitVec 32 := Scf.iv c0_i32_1021 c1_i32_1022 k0_t1
  let v575 : Index := Scalar.indexCast arg6
  let c1_1056 : Index := 1#32
  let c0_1057 : Index := 0#32
  let c0_1058 : Index := 0#32
  ![1, v575.toNat, 1, 0, 0]
def k0_off12 (k0_t1 : Fin k0_t1_loop.trips) : Fin 5 → Nat :=
  let c2_1059 : Index := 2#32
  let c0_i32_1021 : BitVec 32 := 0#32
  let c1_i32_1022 : BitVec 32 := 1#32
  let arg6 : BitVec 32 := Scf.iv c0_i32_1021 c1_i32_1022 k0_t1
  let v578 : Index := Scalar.indexCast arg6
  let c1_1060 : Index := 1#32
  let c0_1061 : Index := 0#32
  let c0_1062 : Index := 0#32
  ![2, v578.toNat, 1, 0, 0]
def k0_off13 (k0_t1 : Fin k0_t1_loop.trips) : Fin 5 → Nat :=
  let c3_1063 : Index := 3#32
  let c0_i32_1021 : BitVec 32 := 0#32
  let c1_i32_1022 : BitVec 32 := 1#32
  let arg6 : BitVec 32 := Scf.iv c0_i32_1021 c1_i32_1022 k0_t1
  let v581 : Index := Scalar.indexCast arg6
  let c1_1064 : Index := 1#32
  let c0_1065 : Index := 0#32
  let c0_1066 : Index := 0#32
  ![3, v581.toNat, 1, 0, 0]
def k0_off14 (k0_t1 : Fin k0_t1_loop.trips) : Fin 5 → Nat :=
  let c4_1067 : Index := 4#32
  let c0_i32_1021 : BitVec 32 := 0#32
  let c1_i32_1022 : BitVec 32 := 1#32
  let arg6 : BitVec 32 := Scf.iv c0_i32_1021 c1_i32_1022 k0_t1
  let v584 : Index := Scalar.indexCast arg6
  let c1_1068 : Index := 1#32
  let c0_1069 : Index := 0#32
  let c0_1070 : Index := 0#32
  ![4, v584.toNat, 1, 0, 0]
def k0_off15 (k0_t1 : Fin k0_t1_loop.trips) : Fin 5 → Nat :=
  let c5_1071 : Index := 5#32
  let c0_i32_1021 : BitVec 32 := 0#32
  let c1_i32_1022 : BitVec 32 := 1#32
  let arg6 : BitVec 32 := Scf.iv c0_i32_1021 c1_i32_1022 k0_t1
  let v587 : Index := Scalar.indexCast arg6
  let c1_1072 : Index := 1#32
  let c0_1073 : Index := 0#32
  let c0_1074 : Index := 0#32
  ![5, v587.toNat, 1, 0, 0]
def k0_off16 (k0_t1 : Fin k0_t1_loop.trips) : Fin 5 → Nat :=
  let c6_1075 : Index := 6#32
  let c0_i32_1021 : BitVec 32 := 0#32
  let c1_i32_1022 : BitVec 32 := 1#32
  let arg6 : BitVec 32 := Scf.iv c0_i32_1021 c1_i32_1022 k0_t1
  let v590 : Index := Scalar.indexCast arg6
  let c1_1076 : Index := 1#32
  let c0_1077 : Index := 0#32
  let c0_1078 : Index := 0#32
  ![6, v590.toNat, 1, 0, 0]
def k0_off17 (k0_t1 : Fin k0_t1_loop.trips) : Fin 5 → Nat :=
  let c7_1079 : Index := 7#32
  let c0_i32_1021 : BitVec 32 := 0#32
  let c1_i32_1022 : BitVec 32 := 1#32
  let arg6 : BitVec 32 := Scf.iv c0_i32_1021 c1_i32_1022 k0_t1
  let v593 : Index := Scalar.indexCast arg6
  let c1_1080 : Index := 1#32
  let c0_1081 : Index := 0#32
  let c0_1082 : Index := 0#32
  ![7, v593.toNat, 1, 0, 0]
abbrev stage0_0 : Fin 1 → Memref sig .tc .vmem S16x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "score_scale" => some (((8 * (Real.log 2))⁻¹ : ℝ) : EReal)
  | _ => none
-- ==== ReferenceIdeal.lean ====
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x8x64, .bf16⟩
  | .hbm, ⟨1, _⟩ => ⟨S2x2048x8x64, .bf16⟩
  | .hbm, ⟨2, _⟩ => ⟨S2x2048x8x64, .bf16⟩
  | .hbm, ⟨3, _⟩ => ⟨S2x2048x8x64, .f32⟩
  | .hbm, ⟨4, _⟩ => ⟨S2x2048x8x64, .f32⟩
  | .hbm, ⟨5, _⟩ => ⟨S2x2048x8x64, .f32⟩
  | .hbm, ⟨6, _⟩ => ⟨S2x8x2048x2048, .f32⟩
  | .hbm, ⟨7, _⟩ => ⟨S_, .f32⟩
  | .hbm, ⟨8, _⟩ => ⟨S2x8x2048x2048, .f32⟩
  | .hbm, ⟨9, _⟩ => ⟨S2x8x2048x2048, .f32⟩
  | .hbm, ⟨10, _⟩ => ⟨S_, .f32⟩
  | .hbm, ⟨11, _⟩ => ⟨S2x8x2048, .f32⟩
  | .hbm, ⟨12, _⟩ => ⟨S2x8x2048x1, .f32⟩
  | .hbm, ⟨13, _⟩ => ⟨S2x8x2048x2048, .f32⟩
  | .hbm, ⟨14, _⟩ => ⟨S2x8x2048x2048, .f32⟩
  | .hbm, ⟨15, _⟩ => ⟨S2x8x2048x2048, .f32⟩
  | .hbm, ⟨16, _⟩ => ⟨S_, .f32⟩
  | .hbm, ⟨17, _⟩ => ⟨S2x8x2048, .f32⟩
  | .hbm, ⟨18, _⟩ => ⟨S2x8x2048x1, .f32⟩
  | .hbm, ⟨19, _⟩ => ⟨S2x8x2048x2048, .f32⟩
  | .hbm, ⟨20, _⟩ => ⟨S2x8x2048x2048, .f32⟩
  | .hbm, ⟨21, _⟩ => ⟨S2x8x64x2048, .f32⟩
  | .hbm, ⟨22, _⟩ => ⟨S2x2048x8x64, .f32⟩
  | _, _ => ⟨S2x2048x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Tables.lean ====
/-
  The tables of the exchange: which copies the kernel makes, in the order it starts them.

  There are eight devices and eight slots per device. A device's slot `σ` is to hold the block of the device whose number is
  its own xor `σ`. The sixteen rows of a slot are cut in three parts. In each of three rounds every device copies, for each
  part, every slot it already holds to one partner, whose number is its own xor a mask (1, 3 or 4); the three parts go through
  the masks in a different order. That is 3 + 6 + 12 = 21 copies, numbered here in program order.
-/
module

public import Mathlib.Data.Fintype.Prod
public import Mathlib.Data.Fin.VecNotation
public import Mathlib.Data.Finset.Image

@[expose] public section

namespace Cert.Exchange

/-- The part of the rows copy `e` moves. -/
def part : Fin 21 → Fin 3 := ![0, 1, 2,  0, 0, 1, 1, 2, 2,  0, 0, 0, 0, 1, 1, 1, 1, 2, 2, 2, 2]
/-- The slot it is read from, on the sender. -/
def src : Fin 21 → Fin 8 := ![0, 0, 0,  0, 1, 0, 3, 0, 4,  0, 1, 3, 2, 0, 3, 4, 7, 0, 4, 1, 5]
/-- The slot it lands in, on the receiver. -/
def dst : Fin 21 → Fin 8 := ![1, 3, 4,  3, 2, 4, 7, 1, 5,  4, 5, 7, 6, 1, 2, 5, 6, 3, 7, 2, 6]
/-- Its round. -/
def rnd : Fin 21 → Fin 3 := ![0, 0, 0,  1, 1, 1, 1, 1, 1,  2, 2, 2, 2, 2, 2, 2, 2, 2, 2, 2, 2]
/-- The partner it goes to: which of the three masks. -/
def via : Fin 21 → Fin 3 := ![0, 1, 2,  1, 1, 2, 2, 0, 0,  2, 2, 2, 2, 0, 0, 0, 0, 1, 1, 1, 1]
/-- Its place among the twenty-one semaphores of a `3 × 7` array. -/
def semIx : Fin 21 → Fin 21 := ![0, 7, 14,  1, 2, 8, 9, 15, 16,  3, 4, 5, 6, 10, 11, 12, 13, 17, 18, 19, 20]
/-- One more than the number of the copy that brought what it sends; zero when it sends the device's own block. -/
def pre : Fin 21 → Fin 22 := ![0, 0, 0,  0, 1, 0, 2, 0, 3,  0, 1, 4, 5, 0, 2, 6, 7, 0, 3, 8, 9]

/-- The masks, and the partners they name. -/
def mask : Fin 3 → Fin 8 := ![1, 3, 4]
/-- Bitwise exclusive or on the numbers below eight. -/
def xr (a b : Fin 8) : Fin 8 := ⟨a.val ^^^ b.val, by revert a b; decide⟩
/-- Partner `j` of device `c`. -/
def px (j : Fin 3) (c : Fin 8) : Fin 8 := xr c (mask j)

/-- The first row of a part. -/
def lo : Fin 3 → ℕ := ![0, 6, 11]
/-- And how many rows the part has. -/
def rows : Fin 3 → ℕ := ![6, 5, 5]

/-- A partner's partner is the device itself. -/
theorem px_px (j : Fin 3) (c : Fin 8) : px j (px j c) = c := by revert j c; decide
/-- Different masks name different partners. -/
theorem px_ne (j j' : Fin 3) (c : Fin 8) (h : px j c = px j' c) : j = j' := by revert j j' c; decide
/-- Slot zero is the device's own. -/
theorem xr_zero (c : Fin 8) : xr c 0 = c := by revert c; decide
/-- Exclusive or with a device's number is its own inverse. -/
theorem xr_xr (c σ : Fin 8) : xr c (xr c σ) = σ := by revert c σ; decide
/-- What a copy moves is the same block on both sides: the sender's name for its source slot and the receiver's name for the
    slot it lands in name one device. -/
theorem xr_dst (c : Fin 8) (e : Fin 21) : xr (px (via e) c) (dst e) = xr c (src e) := by revert c e; decide +kernel
/-- Different copies have different semaphores, -/
theorem semIx_inj (e e' : Fin 21) (h : semIx e = semIx e') : e = e' := by revert e e'; decide +kernel
/-- and every semaphore of the array is some copy's. -/
theorem semIx_surj (i : Fin 21) : ∃ e, semIx e = i := by revert i; decide +kernel

/-- The copies from number `a` on. -/
def left (a : ℕ) : Finset (Fin 21) := Finset.univ.filter (a ≤ ·.val)
/-- The copies before number `a`. -/
def done (a : ℕ) : Finset (Fin 21) := Finset.univ.filter (·.val < a)

/-- Copy `e` is the first of those left; -/
theorem left_succ (e : Fin 21) : left e.val = insert e (left (e.val + 1)) := by
  ext x; simp only [left, Finset.mem_filter, Finset.mem_univ, true_and, Finset.mem_insert, Fin.ext_iff]; omega
/-- after it, it is not left. -/
theorem not_mem_left (e : Fin 21) : e ∉ left (e.val + 1) := by simp [left]
/-- Copy `e` joins those that are done; -/
theorem done_succ (e : Fin 21) : done (e.val + 1) = insert e (done e.val) := by
  ext x; simp only [done, Finset.mem_filter, Finset.mem_univ, true_and, Finset.mem_insert, Fin.ext_iff]; omega
/-- before it, it was not done. -/
theorem not_mem_done (e : Fin 21) : e ∉ done e.val := by simp [done]
/-- At the start all are left, -/
theorem left_zero : left 0 = Finset.univ := by simp [left]
/-- at the end none; -/
theorem left_end : left 21 = ∅ := by decide
/-- at the start none is done, -/
theorem done_zero : done 0 = ∅ := by decide
/-- at the end all are. -/
theorem done_end : done 21 = Finset.univ := by decide

/-- The copies not yet started at number `a` whose source is in hand once the copies before number `b` have been received. -/
def avail (a b : ℕ) : Finset (Fin 21) := Finset.univ.filter fun x => a ≤ x.val ∧ (pre x).val ≤ b
/-- The copies that send what copy `e` brings. -/
def children (e : Fin 21) : Finset (Fin 21) := Finset.univ.filter fun x => (pre x).val = e.val + 1

/-- A copy whose source is in hand may be started, and then the ones after it remain. -/
theorem avail_send (e : Fin 21) (b : ℕ) (h : (pre e).val ≤ b) : avail e.val b = insert e (avail (e.val + 1) b) := by
  ext x; simp only [avail, Finset.mem_filter, Finset.mem_univ, true_and, Finset.mem_insert, Fin.ext_iff]
  constructor
  · rintro ⟨h₁, h₂⟩; by_cases h' : x.val = e.val
    · exact .inl h'
    · exact .inr ⟨by omega, h₂⟩
  · rintro (h' | ⟨h₁, h₂⟩)
    · have : x = e := Fin.ext h'
      subst this; exact ⟨le_refl _, h⟩
    · exact ⟨by omega, h₂⟩
/-- A copy that is started is not to be started again. -/
theorem not_mem_avail (e : Fin 21) (b : ℕ) : e ∉ avail (e.val + 1) b := by simp [avail]
/-- Receiving copy `e` brings the sources of the copies that send it on, -/
theorem avail_recv (a : ℕ) (e : Fin 21) (h : ∀ x ∈ children e, a ≤ x.val) : avail a (e.val + 1) = avail a e.val ∪ children e := by
  ext x; simp only [avail, children, Finset.mem_filter, Finset.mem_univ, true_and, Finset.mem_union] at h ⊢
  have := h x; omega
/-- which were not in hand before. -/
theorem avail_disjoint (a : ℕ) (e : Fin 21) : Disjoint (avail a e.val) (children e) := by
  rw [Finset.disjoint_left]; intro x hx hy
  simp only [avail, children, Finset.mem_filter, Finset.mem_univ, true_and] at hx hy; omega
/-- After the last copy none remains. -/
theorem avail_end (b : ℕ) : avail 21 b = ∅ := by
  ext x; have := x.isLt; simp only [avail, Finset.mem_filter, Finset.mem_univ, true_and, Finset.notMem_empty, iff_false]; omega

/-- Each copy that sends what copy `e` brings sends it from where `e` put it. -/
theorem children_src (e x : Fin 21) (h : x ∈ children e) : src x = dst e ∧ part x = part e := by revert e x; decide +kernel
/-- What copy `e` brings is sent on once in each later round. -/
theorem children_inj (e : Fin 21) : Set.InjOn rnd (children e : Set (Fin 21)) := by
  intro x hx y hy h
  simp only [Finset.mem_coe] at hx hy
  revert e x y; decide +kernel
/-- And in no round but those. -/
theorem children_rnd (e : Fin 21) : (children e).image rnd = Finset.univ.filter (rnd e < ·) := by revert e; decide +kernel

/-- The own block is sent in each round, each part once. -/
theorem own_inj : Set.InjOn (fun x => (part x, rnd x)) (avail 0 0 : Set (Fin 21)) := by
  intro x hx y hy h
  simp only [Finset.mem_coe] at hx hy
  revert x y; decide +kernel
/-- And every part in every round. -/
theorem own_image : (avail 0 0).image (fun x => (part x, rnd x)) = Finset.univ := by decide +kernel
/-- What can be started at once is what sends the own slot. -/
theorem own_src (x : Fin 21) (h : x ∈ avail 0 0) : src x = 0 := by revert x; decide +kernel

/-- Every slot but the own, every part of it, is landed in by exactly one copy. -/
theorem dst_inj (e e' : Fin 21) (h : (dst e, part e) = (dst e', part e')) : e = e' := by revert e e'; decide +kernel
/-- And the copies land in all of those. -/
theorem dst_image : Finset.univ.image (fun e => (dst e, part e)) = Finset.univ.filter (·.1 ≠ (0 : Fin 8)) := by decide +kernel

/-- What the sends give back and what no send took: each third of each part of each slot, once. -/
def sentThird (e : Fin 21) : Fin 8 × Fin 3 × Fin 3 := (src e, part e, rnd e)
/-- The share of what copy `x.1` brought that is meant for round `x.2`; -/
def keptThird (x : Fin 21 × Fin 3) : Fin 8 × Fin 3 × Fin 3 := (dst x.1, part x.1, x.2)
/-- it is kept if that round is not a later one. -/
def kept : Finset (Fin 21 × Fin 3) := Finset.univ.filter fun x => x.2 ≤ rnd x.1
/-- No share is lent twice, -/
theorem sentThird_inj (e e' : Fin 21) (h : sentThird e = sentThird e') : e = e' := by revert e e'; decide +kernel
/-- none is kept twice, -/
theorem keptThird_inj (x x' : Fin 21 × Fin 3) (h : keptThird x = keptThird x') : x = x' := by
  obtain ⟨e, r⟩ := x; obtain ⟨e', r'⟩ := x'
  simp only [keptThird, Prod.mk.injEq] at h
  obtain ⟨h₁, h₂, h₃⟩ := h
  rw [dst_inj e e' (Prod.ext h₁ h₂), h₃]
/-- none is both lent and kept, -/
theorem thirds_disjoint : Disjoint (Finset.univ.image sentThird) (kept.image keptThird) := by decide +kernel
/-- and those are all. -/
theorem thirds_cover : Finset.univ.image sentThird ∪ kept.image keptThird = Finset.univ := by decide +kernel

end Cert.Exchange

end
-- ==== Proof.KernelIdealCells.lean ====
/-
  The exchange of `KernelIdeal` as a protocol: its semaphore cells, the regions of the scratch buffer it moves, what they hold,
  and the schedule of its duties.

  The scratch buffer of a device has eight slots of sixteen rows. `reg σ t` is part `t` of slot `σ`, and `G kv c` is what device
  `c`'s buffer holds when all has landed: slot `σ` the block of the device whose number is `c` xor `σ`. Every region that changes
  hands holds `G` there, on the sender as on the receiver.
-/
module

public import proofs.«01_k».proof.Proof.Tables
public import proofs.«01_k».proof.Proof.Gen.KernelIdeal
public import proofs.«01_k».proof.Proof.Gen.KernelIdeal.Skeleton
public import Idealize.ShloMosaic.Lib.Rounds
public import Idealize.ShloMosaic.Lib.Tactic
public import Idealize.ShloMosaic.Lib.Pipeline.Kit
public import Idealize.ShloMosaic.Lib.Pipeline.Regions
public import Idealize.ShloMosaic.Lib.Pipeline.RegionTalk
public import Idealize.ShloMosaic.Lib.Pipeline.FrameBody

@[expose] public section

noncomputable section

namespace Cert.KernelIdeal.Run

open Cert.KernelIdeal Cert.KernelIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline's rounds, and the exchange's, whose duties are told apart by three names. -/
abbrev UU : Type := UR sig nD τ × URounds (GSem nD τ sig) (Fin 3)

local notation "𝕄" => MT nD τ sig Unit (Elt F) ℕ UU ℕ

/-- Where the windows' own records live in the ghost state; -/
abbrev EP : Emb (UR sig nD τ) (MT nD τ sig Unit (Elt F) ℕ UU ℕ) := embL
/-- where the exchange's rounds do. -/
abbrev ER : Emb (URounds (GSem nD τ sig) (Fin 3)) (MT nD τ sig Unit (Elt F) ℕ UU ℕ) := embR

/-! ## Cells -/

/-- The barrier semaphore, and the copies' two semaphores: copy `e` signals `sendS e` on the sender when its source is read and
    `recvS e` on the receiver when it has landed. -/
abbrev barS : Sem sig := barrier0
/-- Copy `e`'s semaphore on the sender, -/
def sendS (e : Fin 21) : DmaSem sig := ⟨3 + (semIx e).val, by have := (semIx e).isLt; show _ < 45; omega⟩
/-- and its semaphore on the receiver. -/
def recvS (e : Fin 21) : DmaSem sig := ⟨24 + (semIx e).val, by have := (semIx e).isLt; show _ < 45; omega⟩

/-- Device `c`'s barrier semaphore, -/
abbrev barCell (c : Dev nD) : GSem nD τ sig := ((c : Thread nD τ), .reg barS)
/-- its send semaphore of copy `e`, -/
abbrev sendCell (c : Dev nD) (e : Fin 21) : GSem nD τ sig := ((c : Thread nD τ), .dma (sendS e))
/-- and its receive semaphore of copy `e`. -/
abbrev recvCell (c : Dev nD) (e : Fin 21) : GSem nD τ sig := ((c : Thread nD τ), .dma (recvS e))

/-- Different copies have different send semaphores -/
theorem sendS_inj {e e' : Fin 21} (h : sendS e = sendS e') : e = e' := by
  have := congrArg Fin.val h; simp only [sendS] at this; exact semIx_inj e e' (Fin.ext (by omega))
/-- and different receive semaphores, -/
theorem recvS_inj {e e' : Fin 21} (h : recvS e = recvS e') : e = e' := by
  have := congrArg Fin.val h; simp only [recvS] at this; exact semIx_inj e e' (Fin.ext (by omega))
/-- and none is both. -/
theorem sendS_ne_recvS (e e' : Fin 21) : sendS e ≠ recvS e' := fun h => by
  have := congrArg Fin.val h; simp only [sendS, recvS] at this; have := (semIx e).isLt; omega

/-- The shape of `n` rows of a slot. -/
abbrev RowS (n : ℕ) : Shape := ⟨4, ![n, 2, 256, 64]⟩
/-- What `n` rows of a slot count for on a semaphore. -/
def credit (n : ℕ) : ℕ := (cc0_scratch0 : Ref sig .tc).dmaCredit (RowS n) .bf16
/-- What copy `e` counts for. -/
def cr (e : Fin 21) : ℕ := credit (rows (part e))
/-- A copy's credit is not zero. -/
theorem cr_pos (e : Fin 21) : 0 < cr e := by
  unfold cr credit
  refine sig.dmaCredit_pos _ _ _ _ _ ?_
  generalize part e = t
  revert t; decide

/-! ## Regions of the scratch buffer -/

/-- Device `c`'s gathered array. -/
abbrev scLoc (c : Dev nD) : Loc nD τ sig := (c : Thread nD τ).loc cc0_scratch0

/-- Part `t` of slot `σ`. -/
def reg (σ : Fin 8) (t : Fin 3) : Finset S8x16x2x256x64.Idx :=
  Finset.univ.filter fun i => (i 0).val = σ.val ∧ lo t ≤ (i 1).val ∧ (i 1).val < lo t + rows t

/-- An index is in a part of a slot when its slot and its row are. -/
theorem mem_reg {σ : Fin 8} {t : Fin 3} {i : S8x16x2x256x64.Idx} :
    i ∈ reg σ t ↔ (i 0).val = σ.val ∧ lo t ≤ (i 1).val ∧ (i 1).val < lo t + rows t := by simp [reg]

/-- An index within a slot: the index without its slot. -/
def tl (i : S8x16x2x256x64.Idx) : S16x2x256x64.Idx := fun d => i d.succ

/-- What device `c`'s scratch buffer holds in the end, of the devices' blocks `kv`. -/
def G (kv : Dev nD → Vec F S16x2x256x64 .bf16) (c : Dev nD) : Buf (Elt F) (scLoc c) :=
  fun i => kv (xr c (i 0)) (tl i)

/-- Rows of one slot, as the kernel's copies name them. -/
abbrev rowM {off size : Fin 5 → ℕ} (inb : ∀ a, off a + size a ≤ S8x16x2x256x64.size a) {s : Shape}
    (hs : (Rect.unit (s := S8x16x2x256x64) off size inb).shape.Squeezes s) : Memref sig .tc .vmem s .bf16 :=
  ((Memref.whole cc0_scratch0).slice (Rect.unit (s := S8x16x2x256x64) off size inb) (fun _ => rfl)).squeeze s hs

/-- What a copy's memref names is one part of one slot. -/
theorem rowM_set {σ : Fin 8} {t : Fin 3} {a b n : ℕ} (ha : a = σ.val) (hb : b = lo t) (hn : n = rows t) (inb) {s : Shape} (hs) :
    (rowM (off := ![a, b, 0, 0, 0]) (size := ![1, n, 2, 256, 64]) inb (s := s) hs).view.set = reg σ t := by
  subst ha hb hn
  show (((View.whole cc0_scratch0).slice _).reshape _ _).set = _
  rw [View.set_reshape, View.set_slice_whole]
  ext i
  rw [Rect.mem_set_unit, mem_reg]
  constructor
  · intro h
    have h0 := h 0; have h1 := h 1
    simp at h0 h1
    omega
  · rintro ⟨h0, h1, h2⟩ d
    have l2 : (i 2).val < 2 := (i 2).isLt
    have l3 : (i 3).val < 256 := (i 3).isLt
    have l4 : (i 4).val < 64 := (i 4).isLt
    fin_cases d
    · simp; omega
    · simp; omega
    · exact ⟨Nat.zero_le _, by show (i 2).val < 0 + 2; omega⟩
    · exact ⟨Nat.zero_le _, by show (i 3).val < 0 + 256; omega⟩
    · exact ⟨Nat.zero_le _, by show (i 4).val < 0 + 64; omega⟩

/-- WHAT A COPY WRITES: where the destination's region holds, after the copy, the destination's own buffer holds what the source's
    buffer holds at the source's slot and the same row. -/
theorem rowM_copy {a a' b n : ℕ} (inb inb') {s : Shape} (hs hs')
    (fs fd : (cc0_scratch0 : Ref sig .tc).ty.Contents (Elt F)) (i : S8x16x2x256x64.Idx)
    (hi : i ∈ (rowM (off := ![a', b, 0, 0, 0]) (size := ![1, n, 2, 256, 64]) inb' (s := s) hs').view.set) :
    ∃ j : S8x16x2x256x64.Idx, (j 0).val = a ∧ tl j = tl i ∧
      (rowM (off := ![a', b, 0, 0, 0]) (size := ![1, n, 2, 256, 64]) inb' (s := s) hs').view.write (Elt F) fd
        ((rowM (off := ![a, b, 0, 0, 0]) (size := ![1, n, 2, 256, 64]) inb (s := s) hs).view.read (Elt F) fs) Finset.univ i = fs j := by
  obtain ⟨x, -, rfl⟩ := Finset.mem_map.mp hi
  refine ⟨(rowM (off := ![a, b, 0, 0, 0]) (size := ![1, n, 2, 256, 64]) inb (s := s) hs).view.emb x, ?_, ?_, ?_⟩
  · have h : ((Shape.reshapeEquiv hs.numel_eq x) 0).val < 1 := ((Shape.reshapeEquiv hs.numel_eq x) 0).isLt
    show a + 1 * ((Shape.reshapeEquiv hs.numel_eq x) 0).val = a
    omega
  · funext d
    apply Fin.ext
    show (![a, b, 0, 0, 0] : Fin 5 → ℕ) d.succ + 1 * ((Shape.reshapeEquiv hs.numel_eq x) d.succ).val
      = (![a', b, 0, 0, 0] : Fin 5 → ℕ) d.succ + 1 * ((Shape.reshapeEquiv hs'.numel_eq x) d.succ).val
    rfl
  · exact (View.write_emb_of_mem _ _ (Finset.mem_univ x)).trans rfl

/-- A copy along a partner carries `G` to `G`. -/
theorem rowM_copy_G (kv : Dev nD → Vec F S16x2x256x64 .bf16) (c : Dev nD) (e : Fin 21) {a a' b n : ℕ} (ha : a = (src e).val)
    (ha' : a' = (dst e).val) (inb inb') {s : Shape} (hs hs') (fd : Buf (Elt F) (scLoc (px (via e) c))) (i : S8x16x2x256x64.Idx)
    (hi : i ∈ (rowM (off := ![a', b, 0, 0, 0]) (size := ![1, n, 2, 256, 64]) inb' (s := s) hs').view.set)
    (hd : (i 0).val = (dst e).val) :
    (rowM (off := ![a', b, 0, 0, 0]) (size := ![1, n, 2, 256, 64]) inb' (s := s) hs').view.write (Elt F) fd
        ((rowM (off := ![a, b, 0, 0, 0]) (size := ![1, n, 2, 256, 64]) inb (s := s) hs).view.read (Elt F) (G kv c)) Finset.univ i
      = G kv (px (via e) c) i := by
  obtain ⟨j, h0, h1, h2⟩ := rowM_copy (F := F) inb inb' hs hs' (G kv c) fd i hi
  refine h2.trans ?_
  have e0 : (j 0) = src e := Fin.ext (h0.trans ha)
  have e1 : (i 0) = dst e := Fin.ext hd
  unfold G
  rw [h1, e0, e1, xr_dst]

/-! ## What changes hands -/

/-- Part `t` of slot `σ` of device `c`'s scratch buffer, at share `q`, holding `f`. -/
abbrev rPts (c : Dev nD) (σ : Fin 8) (t : Fin 3) (q : PosShare TreeShare) (f : Buf (Elt F) (scLoc c)) : sProp 𝕄 :=
  scLoc c ↦[reg σ t]{q} f

/-- A region is cut in three shares, one for each round's copies to read it at. -/
def third : Fin 3 → PosShare TreeShare := ![fullShare.left, fullShare.right.left, fullShare.right.right]

variable (kv : Dev nD → Vec F S16x2x256x64 .bf16)

/-- One share of one part of one slot, at its final contents. -/
def piece (c : Dev nD) (x : Fin 8 × Fin 3 × Fin 3) : sProp 𝕄 := rPts c x.1 x.2.1 (third x.2.2) (G kv c)

/-- What partner `j` hands device `c` with its barrier signal: the regions `c`'s copies to it will land in, and that their receive
    semaphores are in place. -/
def landing (p : Dev nD) (e : Fin 21) : sProp 𝕄 :=
  iprop((∃ f, rPts p (dst e) (part e) fullShare f) ∗ reached ER (recvCell p e) 0)
/-- What partner `j` hands over with its barrier signal: leave to land every copy that goes to it. -/
def barPay (c : Dev nD) (j : Fin 3) : sProp 𝕄 := bigSep (Finset.univ.filter (via · = j)) fun e => landing (px j c) e
/-- What a copy's landing hands over: its part of its slot, with the contents that it ends with. -/
def recvPay (c : Dev nD) (e : Fin 21) : sProp 𝕄 := rPts c (dst e) (part e) fullShare (G kv c)
/-- What the end of a copy's reading gives back: the share of the source that the copy was lent. -/
def sendPay (c : Dev nD) (e : Fin 21) : sProp 𝕄 := piece kv c (sentThird e)

/-- Which copy a semaphore of the copies belongs to. -/
def copyOf (s : DmaSem sig) : Fin 21 :=
  (![0, 3, 4, 9, 10, 11, 12, 1, 5, 6, 13, 14, 15, 16, 2, 7, 8, 17, 18, 19, 20] : Fin 21 → Fin 21) ⟨(s.val + 18) % 21, Nat.mod_lt _ (by decide)⟩
/-- A send semaphore tells its copy; -/
theorem copyOf_sendS (e : Fin 21) : copyOf (sendS e) = e := by revert e; decide +kernel
/-- so does a receive semaphore. -/
theorem copyOf_recvS (e : Fin 21) : copyOf (recvS e) = e := by revert e; decide +kernel
/-- The send semaphores' numbers lie below the receive semaphores'; -/
theorem sendS_val (e : Fin 21) : 3 ≤ (sendS e).val ∧ (sendS e).val < 24 := by
  have := (semIx e).isLt; simp only [sendS]; omega
/-- those lie above. -/
theorem recvS_val (e : Fin 21) : 24 ≤ (recvS e).val := by simp only [recvS]; omega

/-- THE SCHEDULE: one round on each cell. A barrier cell has one duty of one unit for each partner; a send cell and a receive
    cell of a copy have one, of the copy's credit. -/
def Rd : Rounds.Schedule (GSem nD τ sig) (Fin 3) 𝕄 where
  duties g r := if r = 0 ∧ g.1.2 = .tc then
      (match g.2 with
        | .reg s => if s = barS then Finset.univ else ∅
        | .dma s => if 3 ≤ s.val then {0} else ∅) else ∅
  unitless _ := False
  amount g _ _ := match g.2 with
    | .reg _ => 1
    | .dma s => cr (copyOf s)
  payload g _ d := match g.2 with
    | .reg _ => barPay g.1.1 d
    | .dma s => if 24 ≤ s.val then recvPay kv g.1.1 (copyOf s) else sendPay kv g.1.1 (copyOf s)
  amount_pos g _ _ _ := by
    rcases g with ⟨t, s | s⟩
    · exact Nat.one_pos
    · exact cr_pos _

/-- What a round hands over can be kept in an invariant. -/
instance Rd_payload_storable (g : GSem nD τ sig) (r : ℕ) (d : Fin 3) :
    BI.Storable (upEmb : UEmb _ 𝕄) ((Rd (F := F) kv).payload g r d) := by
  rcases g with ⟨t, s | s⟩
  · show BI.Storable upEmb (barPay t.1 d)
    unfold barPay landing; infer_instance
  · show BI.Storable upEmb (if 24 ≤ s.val then recvPay kv t.1 (copyOf s) else sendPay kv t.1 (copyOf s))
    unfold recvPay sendPay piece
    split <;> infer_instance

section Sched
variable (c : Dev nD) (e : Fin 21)

/-- A barrier has a duty per partner, -/
theorem duties_bar : (Rd (F := F) kv).duties (barCell c) 0 = Finset.univ := by
  dsimp only [Rd]; rw [if_pos ⟨rfl, rfl⟩, if_pos rfl]
/-- a send semaphore has one duty, -/
theorem duties_send : (Rd (F := F) kv).duties (sendCell c e) 0 = {0} := by
  dsimp only [Rd]; rw [if_pos ⟨rfl, rfl⟩]; exact if_pos (sendS_val e).1
/-- so has a receive semaphore, -/
theorem duties_recv : (Rd (F := F) kv).duties (recvCell c e) 0 = {0} := by
  dsimp only [Rd]; rw [if_pos ⟨rfl, rfl⟩]; exact if_pos (by have := recvS_val e; omega)
/-- and there is one round only. -/
theorem duties_later (g : GSem nD τ sig) : ∀ r, 1 ≤ r → (Rd (F := F) kv).duties g r = ∅ := fun r hr => by
  dsimp only [Rd]; rw [if_neg (fun h => by omega)]

/-- A partner signals one, -/
theorem amount_bar (d : Fin 3) : (Rd (F := F) kv).amount (barCell c) 0 d = 1 := rfl
/-- a copy its credit, on the sender -/
theorem amount_send (d : Fin 3) : (Rd (F := F) kv).amount (sendCell c e) 0 d = cr e := by
  show cr (copyOf (sendS e)) = _; rw [copyOf_sendS]
/-- and on the receiver. -/
theorem amount_recv (d : Fin 3) : (Rd (F := F) kv).amount (recvCell c e) 0 d = cr e := by
  show cr (copyOf (recvS e)) = _; rw [copyOf_recvS]

/-- What each duty hands over: a partner's signal, -/
theorem payload_bar (d : Fin 3) : (Rd (F := F) kv).payload (barCell c) 0 d = barPay c d := rfl
/-- the end of a copy's reading, -/
theorem payload_send (d : Fin 3) : (Rd (F := F) kv).payload (sendCell c e) 0 d = sendPay kv c e := by
  show (if _ then _ else _) = _; rw [if_neg (by have := (sendS_val e).2; omega), copyOf_sendS]
/-- a copy's landing. -/
theorem payload_recv (d : Fin 3) : (Rd (F := F) kv).payload (recvCell c e) 0 d = recvPay kv c e := by
  show (if _ then _ else _) = _; rw [if_pos (recvS_val e), copyOf_recvS]

/-- A barrier's round is of three units, -/
theorem expect_bar : (Rd (F := F) kv).expect (barCell c) 0 = 3 := by
  unfold Schedule.expect Schedule.amountOf; rw [duties_bar]; rfl
/-- a send semaphore's of its copy's credit, -/
theorem expect_send : (Rd (F := F) kv).expect (sendCell c e) 0 = cr e := by
  unfold Schedule.expect Schedule.amountOf; rw [duties_send, Finset.sum_singleton, amount_send]
/-- and so is a receive semaphore's. -/
theorem expect_recv : (Rd (F := F) kv).expect (recvCell c e) 0 = cr e := by
  unfold Schedule.expect Schedule.amountOf; rw [duties_recv, Finset.sum_singleton, amount_recv]

/-- All that a barrier's round hands over, -/
theorem rest_bar : bigSep ((Rd (F := F) kv).duties (barCell c) 0 \ ∅) (fun d => (Rd (F := F) kv).payload (barCell c) 0 d)
    = bigSep Finset.univ fun j => barPay (F := F) c j := by
  rw [Finset.sdiff_empty, duties_bar]; rfl
/-- a send semaphore's -/
theorem rest_send : bigSep ((Rd (F := F) kv).duties (sendCell c e) 0 \ ∅) (fun d => (Rd (F := F) kv).payload (sendCell c e) 0 d)
    = sendPay kv c e := by rw [Finset.sdiff_empty, duties_send, bigSep_singleton, payload_send]
/-- and a receive semaphore's. -/
theorem rest_recv : bigSep ((Rd (F := F) kv).duties (recvCell c e) 0 \ ∅) (fun d => (Rd (F := F) kv).payload (recvCell c e) 0 d)
    = recvPay kv c e := by rw [Finset.sdiff_empty, duties_recv, bigSep_singleton, payload_recv]

end Sched

/-! ## What is owed, and the levels -/

/-- The receive credit device `c` owes for the copies from number `a` on. -/
def oweS (a : ℕ) (c : Dev nD) : CellTallies nD τ sig Unit := ∑ e ∈ left a, tallyAt (recvCell (px (via e) c) e) () (cr e)
/-- What device `c` owes at the start: every copy's credit, and one unit to each partner's barrier. -/
def O₀ (c : Dev nD) : CellTallies nD τ sig Unit :=
  oweS 0 c + tallyAt (barCell (px 2 c)) () 1 + tallyAt (barCell (px 1 c)) () 1 + tallyAt (barCell (px 0 c)) () 1

/-- Starting a copy settles its debt; -/
theorem oweS_succ (e : Fin 21) (c : Dev nD) : oweS e.val c = oweS (e.val + 1) c + tallyAt (recvCell (px (via e) c) e) () (cr e) := by
  unfold oweS; rw [left_succ e, Finset.sum_insert (not_mem_left e), add_comm]
/-- after the last copy nothing is owed. -/
theorem oweS_end (c : Dev nD) : oweS 21 c = 0 := by unfold oweS; rw [left_end, Finset.sum_empty]

/-- Only the devices' own threads have levels. -/
def L (g : GSem nD τ sig) : Finset Unit := if g.1.2 = .tc then {()} else ∅
/-- A barrier cell at one, a receive cell of round `r` at `2 + r`, the rest at zero. -/
def lv (g : GSem nD τ sig) (_ : Unit) : ℕ := match g.2 with
  | .reg _ => 1
  | .dma s => if 24 ≤ s.val then 2 + (rnd (copyOf s)).val else 0

/-- Each of their semaphores has one. -/
theorem L_tc (c : Dev nD) (sm : SemLoc sig) : L ((c : Thread nD τ), sm) = {()} := if_pos rfl
/-- A barrier's level is one, -/
theorem lv_bar (c : Dev nD) : lv (barCell c) () = 1 := rfl
/-- a receive semaphore's is two more than its copy's round. -/
theorem lv_recv (c : Dev nD) (e : Fin 21) : lv (recvCell c e) () = 2 + (rnd e).val := by
  show (if _ then _ else _) = _; rw [if_pos (recvS_val e), copyOf_recvS]

/-- What is still owed for copies is the landing of one that is not yet started. -/
theorem oweS_pos {a : ℕ} {c : Dev nD} {g : GSem nD τ sig} {u : Unit} (h : 0 < oweS a c g u) :
    ∃ e ∈ left a, g = recvCell (px (via e) c) e := by
  by_contra hne
  push Not at hne
  refine absurd h (Nat.not_lt.mpr (le_of_eq ?_))
  unfold oweS
  rw [Finset.sum_apply, Finsupp.finset_sum_apply]
  refine Finset.sum_eq_zero fun e he => ?_
  rw [tallyAt_apply, if_neg (fun h' => hne e he h'.1)]

/-- A wait below every copy still owed is allowed. -/
theorem mayWait (c : Dev nD) (sm : SemLoc sig) (a : ℕ) (n : ℕ) (hsm : lv ((c : Thread nD τ), sm) () = n)
    (h : ∀ e ∈ left a, n < 2 + (rnd e).val) :
    (levAts L lv : sProp 𝕄) ⊢ MayWait (c : Thread nD τ) sm () (oweS a c) :=
  MayOwe.of_cut (L := L) (lev := lv) n (fun p hp => by rw [Finset.mem_singleton.mp hp, L_tc]; exact Finset.mem_singleton_self _)
    (fun g u hg => by obtain ⟨e, -, rfl⟩ := oweS_pos hg; rw [L_tc]; exact Finset.mem_singleton_self _)
    (fun p hp => by rw [Finset.mem_singleton.mp hp]; exact le_of_eq hsm)
    (fun g u hg => by obtain ⟨e, he, rfl⟩ := oweS_pos hg; rw [lv_recv]; exact h e he)

end Cert.KernelIdeal.Run

end

end
-- ==== Proof.KernelIdealSteps.lean ====
/-
  The state of the exchange of `KernelIdeal` on one device between two of its operations, and what each kind of operation does to it:
  starting a copy, waiting for one to land, waiting for one to have been read.
-/
module

public import proofs.«01_k».proof.Proof.KernelIdealCells
public import Idealize.SL.ProofMode.BigOp

@[expose] public section

noncomputable section

namespace Cert.KernelIdeal.Run

open Cert.KernelIdeal Cert.KernelIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Vec F S16x2x256x64 .bf16)

/-- No loop of unknown length, so no variants. -/
abbrev 𝒱₀ : Variants := Variants.none

/-! ## Families of assertions over finite sets -/

section Families
variable {M I : Type} [URA M] [DecidableEq I]

/-- A family holds each of its members. -/
theorem member {s : Finset I} {i : I} {Φ : I → sProp M} (h : i ∈ s) : (bigSep s Φ : sProp M) ⊢ Φ i := bigSep_elim h
/-- A family with a member inserted is the member beside the rest. -/
theorem bigSep_one {s : Finset I} {i : I} {Φ : I → sProp M} (h : i ∉ s) : bigSep (insert i s) Φ = iprop(Φ i ∗ bigSep s Φ) := bigSep_insert h
/-- A family over two disjoint sets is the two families beside each other. -/
theorem bigSep_two {s t : Finset I} {Φ : I → sProp M} (h : Disjoint s t) : bigSep (s ∪ t) Φ = iprop(bigSep s Φ ∗ bigSep t Φ) :=
  bigSep_union h
/-- A family is its members of which `p` holds beside those of which it does not. -/
theorem bigSep_cut {s : Finset I} {Φ : I → sProp M} (p : I → Prop) [DecidablePred p] :
    bigSep s Φ = iprop(bigSep (s.filter p) Φ ∗ bigSep (s.filter fun i => ¬ p i) Φ) := bigSep_filter_split s p

end Families

/-- Every cell's invariant, at the names `K`. -/
def records (K : GSem nD τ sig → ℕ) : sProp 𝕄 :=
  iprop((bigSep Finset.univ fun c : Dev nD => cellInv ER (Rd kv) (K (barCell c)) (barCell c))
    ∗ (bigSep Finset.univ fun x : Dev nD × Fin 21 => cellInv ER (Rd kv) (K (sendCell x.1 x.2)) (sendCell x.1 x.2))
    ∗ (bigSep Finset.univ fun x : Dev nD × Fin 21 => cellInv ER (Rd kv) (K (recvCell x.1 x.2)) (recvCell x.1 x.2)))

/-- The records may be used as often as wanted. -/
instance records_persistent (K : GSem nD τ sig → ℕ) : BI.Persistent (records kv K) := by unfold records; infer_instance

/-- They hold each barrier's, -/
theorem records_bar (K : GSem nD τ sig → ℕ) (c : Dev nD) : records kv K ⊢ cellInv ER (Rd kv) (K (barCell c)) (barCell c) := by
  unfold records
  iintro ⟨H, -, -⟩
  iapply (member (Φ := fun c : Dev nD => cellInv ER (Rd kv) (K (barCell c)) (barCell c)) (Finset.mem_univ c)); iexact H
/-- each send semaphore's -/
theorem records_send (K : GSem nD τ sig → ℕ) (c : Dev nD) (e : Fin 21) :
    records kv K ⊢ cellInv ER (Rd kv) (K (sendCell c e)) (sendCell c e) := by
  unfold records
  iintro ⟨-, H, -⟩
  iapply (member (Φ := fun x : Dev nD × Fin 21 => cellInv ER (Rd kv) (K (sendCell x.1 x.2)) (sendCell x.1 x.2)) (Finset.mem_univ (c, e))); iexact H
/-- and each receive semaphore's. -/
theorem records_recv (K : GSem nD τ sig → ℕ) (c : Dev nD) (e : Fin 21) :
    records kv K ⊢ cellInv ER (Rd kv) (K (recvCell c e)) (recvCell c e) := by
  unfold records
  iintro ⟨-, -, H⟩
  iapply (member (Φ := fun x : Dev nD × Fin 21 => cellInv ER (Rd kv) (K (recvCell x.1 x.2)) (recvCell x.1 x.2)) (Finset.mem_univ (c, e))); iexact H

/-- What stays true throughout: the invariants, and the levels. -/
def Ctx (K : GSem nD τ sig → ℕ) : sProp 𝕄 := iprop(records kv K ∗ levAts L lv)
/-- The context may be used as often as wanted. -/
instance Ctx_persistent (K : GSem nD τ sig → ℕ) : BI.Persistent (Ctx kv K) := by unfold Ctx; infer_instance

/-- What starting copy `e` takes besides its source: its two duties' tokens, its send cell open, and the place it lands in. -/
def sendGoods (c : Dev nD) (e : Fin 21) : sProp 𝕄 :=
  iprop(dutyTok ER (sendCell c e) 0 0 ∗ reached ER (sendCell c e) 0 ∗ dutyTok ER (recvCell (px (via e) c) e) 0 0 ∗ landing (px (via e) c) e)
/-- What waiting for copy `e` to land takes. -/
def recvGoods (c : Dev nD) (e : Fin 21) : sProp 𝕄 :=
  iprop(cred (tallyAt (recvCell c e) () (cr e)) ∗ atPos ER (recvCell c e) 0 ∅ 0)
/-- What is kept of what copy `e` brought: the shares of its round and the earlier ones. -/
def recvKept (c : Dev nD) (e : Fin 21) : sProp 𝕄 :=
  iprop(atPos ER (recvCell c e) 1 ∅ 0 ∗ bigSep (Finset.univ.filter (· ≤ rnd e)) fun r => piece kv c (dst e, part e, r))
/-- What is held once copy `e` has been read. -/
def sendKept (c : Dev nD) (e : Fin 21) : sProp 𝕄 := iprop(atPos ER (sendCell c e) 1 ∅ 0 ∗ sendPay kv c e)

/-- The copies started and not yet waited for. -/
def mid (d a : ℕ) : Finset (Fin 21) := Finset.univ.filter fun e => d ≤ e.val ∧ e.val < a

/-- Starting a copy adds it to those not waited for; -/
theorem mid_send (e : Fin 21) (d : ℕ) (h : d ≤ e.val) : mid d (e.val + 1) = insert e (mid d e.val) := by
  ext x; simp only [mid, Finset.mem_filter, Finset.mem_univ, true_and, Finset.mem_insert, Fin.ext_iff]; omega
/-- it was not there before; -/
theorem not_mem_mid (e : Fin 21) (d : ℕ) : e ∉ mid d e.val := by simp [mid]
/-- waiting for one takes it out, -/
theorem mid_wait (e : Fin 21) (a : ℕ) (h : e.val < a) : mid e.val a = insert e (mid (e.val + 1) a) := by
  ext x; simp only [mid, Finset.mem_filter, Finset.mem_univ, true_and, Finset.mem_insert, Fin.ext_iff]; omega
/-- and it is not there after. -/
theorem not_mem_mid' (e : Fin 21) (a : ℕ) : e ∉ mid (e.val + 1) a := by simp [mid]
/-- When all that were started have been waited for, none is left. -/
theorem mid_self (a : ℕ) : mid a a = ∅ := by
  ext x; simp only [mid, Finset.mem_filter, Finset.mem_univ, true_and, Finset.notMem_empty, iff_false]; omega

/-- THE STATE of device `c` after it started the copies before number `a`, received those before `b` and saw those before `d`
    read. -/
def St (K : GSem nD τ sig → ℕ) (c : Dev nD) (a b d : ℕ) : sProp 𝕄 :=
  iprop(Ctx kv K ∗ (∃ W, owes (c : Thread nD τ) (oweS a c) W)
    ∗ bigSep (left a) (sendGoods (F := F) c)
    ∗ bigSep (avail a b) (sendPay kv c)
    ∗ bigSep (left b) (recvGoods (F := F) c)
    ∗ bigSep (done b) (recvKept kv c)
    ∗ bigSep (left d) (fun e => (atPos ER (sendCell c e) 0 ∅ 0 : sProp 𝕄))
    ∗ bigSep (mid d a) (fun e => (cred (tallyAt (sendCell c e) () (cr e)) : sProp 𝕄))
    ∗ bigSep (done d) (sendKept kv c))

/-- A copy's own region, read off the memref it names. -/
theorem rPts_row (c : Dev nD) {σ : Fin 8} {t : Fin 3} (q : PosShare TreeShare) (f : Buf (Elt F) (scLoc c)) {a b n : ℕ}
    (ha : a = σ.val) (hb : b = lo t) (hn : n = rows t) (inb) {s : Shape} (hs) :
    (rPts c σ t q f : sProp 𝕄)
      = ((rowM (off := ![a, b, 0, 0, 0]) (size := ![1, n, 2, 256, 64]) inb (s := s) hs).view.loc (c : Thread nD τ)
          ↦[(rowM (off := ![a, b, 0, 0, 0]) (size := ![1, n, 2, 256, 64]) inb (s := s) hs).view.set]{q} f) := by
  rw [rowM_set ha hb hn inb hs]

/-- STARTING COPY `e`. -/
theorem step_send (K : GSem nD τ sig → ℕ) (c n : Dev nD) (e : Fin 21) (hn : n = px (via e) c) {a a' b rr : ℕ} (bb d : ℕ)
    (ha : a = (src e).val) (ha' : a' = (dst e).val) (hb : b = lo (part e)) (hrr : rr = rows (part e)) (inb inb')
    (hs hs') {sS rS : DmaSem sig} (hS : sS = sendS e) (hR : rS = recvS e) (hpre : (pre e).val ≤ bb) (hd : d ≤ e.val)
    {hsc} {hsrc hdst hsem} {α : Type} {k : PUnit → Prog (TpuEff nD τ sig (Elt F) Λ₀ .tc) α} {Q : α → sProp 𝕄} :
    St kv K c e.val bb d
      ⊢ iprop((St kv K c (e.val + 1) bb d -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (rowM (off := ![a, b, 0, 0, 0]) (size := ![1, rr, 2, 256, 64]) inb (s := RowS rr) hs)
              (.remote (Dev.tc n) (rowM (off := ![a', b, 0, 0, 0]) (size := ![1, rr, 2, 256, 64]) inb' (s := RowS rr) hs') (.dma sS) hsc)
              (.dma rS) hsrc hdst hsem) k) Q) := by
  subst hn hS hR
  unfold St Ctx
  rw [left_succ e, bigSep_one (not_mem_left e), avail_send e bb hpre, bigSep_one (not_mem_avail e bb)]
  rw [mid_send e d hd, bigSep_one (not_mem_mid e d), oweS_succ]
  unfold sendGoods landing
  iintro ⟨⟨#Hrec, #HLv⟩, ⟨%W, HO⟩, ⟨⟨HtS, HrS, HtR, ⟨%fd, Hdst⟩, HrR⟩, Hleft⟩, ⟨Hsrc, Havail⟩, HL, HD, HA, HM, HK⟩ Hk
  iapply (Rounds.wp_send_pointsTo 𝒱₀ ER (Rd kv) (c : Thread nD τ) none (c' := (px (via e) c : Thread nD τ))
      (src := rowM (off := ![a, b, 0, 0, 0]) (size := ![1, rr, 2, 256, 64]) inb (s := RowS rr) hs)
      (dst := rowM (off := ![a', b, 0, 0, 0]) (size := ![1, rr, 2, 256, 64]) inb' (s := RowS rr) hs')
      (sS := .dma (sendS e)) (sem := .dma (recvS e)) (q := third (rnd e)) (fs := G kv c) (fd := fd)
      (κ₁ := K (sendCell c e)) (κ₂ := K (recvCell (px (via e) c) e)) (r₁ := 0) (r₂ := 0) (d₁ := 0) (d₂ := 0)
      (by rw [duties_send]; exact Finset.mem_singleton_self _) (by rw [duties_recv]; exact Finset.mem_singleton_self _)
      () () (cr e) (by subst hrr; rfl) (amount_send kv c e 0) (amount_recv kv (px (via e) c) e 0) (oweS (e.val + 1) c) rfl (W := W)
      (by rw [payload_send]; unfold sendPay piece sentThird; rw [← rPts_row c (third (rnd e)) (G kv c) ha hb hrr])
      (by
        rw [payload_recv]; unfold recvPay
        rw [pointsTo_congr (g := G kv (px (via e) c)) (fun i hi => rowM_copy_G kv c e ha ha' inb inb' hs hs' fd i hi
          (mem_reg.mp (by rw [← rowM_set ha' hb hrr inb' hs']; exact hi)).1)]
        rw [rowM_set ha' hb hrr inb' hs'])) $$ [Hsrc Hdst HO HtS HrS HtR HrR]
  · isplitr; · iapply (records_send kv K c e); iexact Hrec
    isplitr; · iapply (records_recv kv K (px (via e) c) e); iexact Hrec
    isplitl [Hsrc]
    · unfold sendPay piece sentThird; rw [← rPts_row c (third (rnd e)) (G kv c) ha hb hrr]; iexact Hsrc
    isplitl [Hdst]
    · rw [← rPts_row (px (via e) c) fullShare fd ha' hb hrr]; iexact Hdst
    isplitl [HO]; · iexact HO
    isplitl [HtS]; · iexact HtS
    isplitl [HrS]; · iexact HrS
    isplitl [HtR]; · iexact HtR
    iexact HrR
  iintro ⟨Hc, HO⟩
  iapply Hk
  isplitr
  · isplitr; · iexact Hrec
    iexact HLv
  isplitl [HO]; · iexists W; iexact HO
  isplitl [Hleft]; · iexact Hleft
  isplitl [Havail]; · iexact Havail
  isplitl [HL]; · iexact HL
  isplitl [HD]; · iexact HD
  isplitl [HA]; · iexact HA
  isplitl [Hc HM]
  · isplitl [Hc]; · iexact Hc
    iexact HM
  iexact HK

/-- A region whole is its three shares. -/
theorem rPts_thirds (c : Dev nD) (σ : Fin 8) (t : Fin 3) :
    (rPts c σ t fullShare (G kv c) : sProp 𝕄) = bigSep Finset.univ fun r : Fin 3 => piece kv c (σ, t, r) := by
  rw [bigSep_univ_eq_bigSepL [(0 : Fin 3), (1 : Fin 3), (2 : Fin 3)] (by decide) (by decide)]
  have h1 := pointsTo_share (ℓ := scLoc c) (I := reg σ t) (f := G kv c) (Ix := Unit) (Name := ℕ) (U := UU) (Lvl := ℕ) (PosShare.mem_left_op_right fullShare)
  have h2 := pointsTo_share (ℓ := scLoc c) (I := reg σ t) (f := G kv c) (Ix := Unit) (Name := ℕ) (U := UU) (Lvl := ℕ) (PosShare.mem_left_op_right fullShare.right)
  show (scLoc c ↦[reg σ t]{fullShare} G kv c : sProp 𝕄) = _
  rw [BI.Entails.antisymm h1.1 h1.2, BI.Entails.antisymm h2.1 h2.2]
  simp only [bigSepL_cons_cons, bigSepL_singleton]
  rfl

/-- What copy `e` brings: the shares kept, and those of the copies that send it on. -/
theorem recvPay_split (c : Dev nD) (e : Fin 21) :
    (recvPay kv c e : sProp 𝕄) = iprop((bigSep (Finset.univ.filter (· ≤ rnd e)) fun r => piece kv c (dst e, part e, r))
      ∗ bigSep (children e) (sendPay kv c)) := by
  have hc : bigSep (children e) (sendPay kv c)
      = bigSep (Finset.univ.filter fun r => ¬ r ≤ rnd e) fun r => (piece kv c (dst e, part e, r) : sProp 𝕄) := by
    simp only [not_le]
    rw [← children_rnd e, bigSep_image_of_injOn (children_inj e)]
    refine bigSep_congr fun x hx => ?_
    obtain ⟨h1, h2⟩ := children_src e x hx
    unfold sendPay sentThird; rw [h1, h2]
  unfold recvPay
  rw [rPts_thirds, hc, bigSep_cut (· ≤ rnd e)]

/-- WAITING FOR COPY `e` TO LAND: allowed while every copy still to be started is of a later round. -/
theorem step_recv (K : GSem nD τ sig → ℕ) (c : Dev nD) (e : Fin 21) (a d : ℕ) {rS : DmaSem sig} (hR : rS = recvS e)
    (hlev : ∀ x ∈ left a, rnd e < rnd x) (hch : ∀ x ∈ children e, a ≤ x.val)
    {sp sp' : Space} {s s' : Shape} {t t' : EltTy} {κ' : Kind} {srcM : Memref sig .tc sp' s' t'} {dstM : Memref sig κ' sp s t}
    (hcr : dstM.view.dmaCredit = cr e) {hsrc hdst}
    {α : Type} {k : PUnit → Prog (TpuEff nD τ sig (Elt F) Λ₀ .tc) α} {Q : α → sProp 𝕄} :
    St kv K c a e.val d
      ⊢ iprop((St kv K c a (e.val + 1) d -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 rS srcM dstM hsrc hdst) k) Q) := by
  subst hR
  unfold St Ctx
  rw [left_succ e, bigSep_one (not_mem_left e), avail_recv a e hch, bigSep_two (avail_disjoint a e)]
  rw [done_succ e, bigSep_one (not_mem_done e)]
  unfold recvGoods recvKept
  iintro ⟨⟨#Hrec, #HLv⟩, ⟨%W, HO⟩, Hleft, Havail, ⟨⟨Hc, Hat⟩, HR⟩, HD, HA, HM, HK⟩ Hk
  iapply (Rounds.wp_wait_rest_token 𝒱₀ ER (Rd kv) (c : Thread nD τ) none (κ := K (recvCell c e))
      (wpE_waitDma2_eq 𝒱₀ (c : Thread nD τ) none Set.univ) (Set.mem_univ _) () (O := oweS a c) (W := W) (R := 0) (m := 0) (T := ∅)
      ((Nat.zero_add _).trans (hcr.trans (expect_recv kv c e).symm))) $$ [Hc HO Hat]
  · isplitr; · iapply (records_recv kv K c e); iexact Hrec
    isplitl [Hc]; · rw [hcr]; iexact Hc
    isplitl [HO]; · iexact HO
    isplitr
    · iapply (mayWait c (.dma (recvS e)) a (2 + (rnd e).val) (lv_recv c e) (fun x hx => by have := Fin.lt_def.mp (hlev x hx); omega)); iexact HLv
    iexact Hat
  iintro ⟨HO, Hat, -, Hpay⟩
  ihave Hp := (Entails.of_eq ((rest_recv kv c e).trans (recvPay_split kv c e))) $$ Hpay
  icases Hp with ⟨Hkept, Hch⟩
  iapply Hk
  isplitr
  · isplitr; · iexact Hrec
    iexact HLv
  isplitl [HO]; · iexists _; iexact HO
  isplitl [Hleft]; · iexact Hleft
  isplitl [Havail Hch]
  · isplitl [Havail]; · iexact Havail
    iexact Hch
  isplitl [HR]; · iexact HR
  isplitl [HD Hkept Hat]
  · isplitl [Hkept Hat]
    · isplitl [Hat]; · iexact Hat
      iexact Hkept
    iexact HD
  isplitl [HA]; · iexact HA
  isplitl [HM]; · iexact HM
  iexact HK

/-- WAITING FOR COPY `e` TO HAVE BEEN READ, every copy started. -/
theorem step_read (K : GSem nD τ sig → ℕ) (c : Dev nD) (e : Fin 21) (b : ℕ) {sS : DmaSem sig} (hS : sS = sendS e)
    {sp sp' : Space} {s s' : Shape} {t t' : EltTy} {κ' : Kind} {srcM : Memref sig .tc sp' s' t'} {dstM : Memref sig κ' sp s t}
    (hcr : dstM.view.dmaCredit = cr e) {hsrc hdst}
    {α : Type} {k : PUnit → Prog (TpuEff nD τ sig (Elt F) Λ₀ .tc) α} {Q : α → sProp 𝕄} :
    St kv K c 21 b e.val
      ⊢ iprop((St kv K c 21 b (e.val + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 sS srcM dstM hsrc hdst) k) Q) := by
  subst hS
  unfold St Ctx
  rw [left_succ e, bigSep_one (not_mem_left e), mid_wait e 21 e.isLt, bigSep_one (not_mem_mid' e 21)]
  rw [done_succ e, bigSep_one (not_mem_done e), oweS_end]
  unfold sendKept
  iintro ⟨⟨#Hrec, #HLv⟩, ⟨%W, HO⟩, Hleft, Havail, HR, HD, ⟨Hat, HA⟩, ⟨Hc, HM⟩, HK⟩ Hk
  iapply (Rounds.wp_wait_rest_token 𝒱₀ ER (Rd kv) (c : Thread nD τ) none (κ := K (sendCell c e))
      (wpE_waitDma2_eq 𝒱₀ (c : Thread nD τ) none Set.univ) (Set.mem_univ _) () (O := 0) (W := W) (R := 0) (m := 0) (T := ∅)
      ((Nat.zero_add _).trans (hcr.trans (expect_send kv c e).symm))) $$ [Hc HO Hat]
  · isplitr; · iapply (records_send kv K c e); iexact Hrec
    isplitl [Hc]; · rw [hcr]; iexact Hc
    isplitl [HO]; · iexact HO
    isplitr; · rw [MayWait_zero]; iempintro
    iexact Hat
  iintro ⟨HO, Hat, -, Hpay⟩
  ihave Hp := (Entails.of_eq (rest_send kv c e)) $$ Hpay
  iapply Hk
  isplitr
  · isplitr; · iexact Hrec
    iexact HLv
  isplitl [HO]; · iexists _; iexact HO
  isplitl [Hleft]; · iexact Hleft
  isplitl [Havail]; · iexact Havail
  isplitl [HR]; · iexact HR
  isplitl [HD]; · iexact HD
  isplitl [HA]; · iexact HA
  isplitl [HM]; · iexact HM
  isplitl [Hat Hp]
  · isplitl [Hat]; · iexact Hat
    iexact Hp
  iexact HK

end Cert.KernelIdeal.Run

end

end
-- ==== Proof.KernelIdealTalk.lean ====
/-
  The exchange of `KernelIdeal` part by part: what each stretch of its copies and waits does to the state of the exchange.
-/
module

public import proofs.«01_k».proof.Proof.KernelIdealSteps

@[expose] public section

noncomputable section

namespace Cert.KernelIdeal.Run

open Cert.KernelIdeal Cert.KernelIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Vec F S16x2x256x64 .bf16)

/-- Returning a value. -/
theorem wp_done (c : Dev nD) {α : Type} {a : α} {Q : α → sProp 𝕄} :
    Q a ⊢ wp frame (wpE (defs₀ (F := F)) 𝒱₀ (c : Thread nD τ) none) Set.univ (.ret a) Q := by
  rw [wp_ret]; iintro H; imodintro; iexact H

/-! ## The partner each operation names -/

/-- The device of the program's signal or copy number 1 is partner 0. -/
theorem dev1 (c : Dev nD) : (⟨k0_dev1 c, k0_dev1_lt c⟩ : Dev nD) = px 0 c := by revert c; decide +kernel
/-- The device of the program's signal or copy number 2 is partner 1. -/
theorem dev2 (c : Dev nD) : (⟨k0_dev2 c, k0_dev2_lt c⟩ : Dev nD) = px 1 c := by revert c; decide +kernel
/-- The device of the program's signal or copy number 3 is partner 2. -/
theorem dev3 (c : Dev nD) : (⟨k0_dev3 c, k0_dev3_lt c⟩ : Dev nD) = px 2 c := by revert c; decide +kernel
/-- The device of the program's signal or copy number 4 is partner 0. -/
theorem dev4 (c : Dev nD) : (⟨k0_dev4 c, k0_dev4_lt c⟩ : Dev nD) = px 0 c := by revert c; decide +kernel
/-- The device of the program's signal or copy number 5 is partner 1. -/
theorem dev5 (c : Dev nD) : (⟨k0_dev5 c, k0_dev5_lt c⟩ : Dev nD) = px 1 c := by revert c; decide +kernel
/-- The device of the program's signal or copy number 6 is partner 2. -/
theorem dev6 (c : Dev nD) : (⟨k0_dev6 c, k0_dev6_lt c⟩ : Dev nD) = px 2 c := by revert c; decide +kernel
/-- The device of the program's signal or copy number 7 is partner 1. -/
theorem dev7 (c : Dev nD) : (⟨k0_dev7 c, k0_dev7_lt c⟩ : Dev nD) = px 1 c := by revert c; decide +kernel
/-- The device of the program's signal or copy number 8 is partner 1. -/
theorem dev8 (c : Dev nD) : (⟨k0_dev8 c, k0_dev8_lt c⟩ : Dev nD) = px 1 c := by revert c; decide +kernel
/-- The device of the program's signal or copy number 9 is partner 2. -/
theorem dev9 (c : Dev nD) : (⟨k0_dev9 c, k0_dev9_lt c⟩ : Dev nD) = px 2 c := by revert c; decide +kernel
/-- The device of the program's signal or copy number 10 is partner 2. -/
theorem dev10 (c : Dev nD) : (⟨k0_dev10 c, k0_dev10_lt c⟩ : Dev nD) = px 2 c := by revert c; decide +kernel
/-- The device of the program's signal or copy number 11 is partner 0. -/
theorem dev11 (c : Dev nD) : (⟨k0_dev11 c, k0_dev11_lt c⟩ : Dev nD) = px 0 c := by revert c; decide +kernel
/-- The device of the program's signal or copy number 12 is partner 0. -/
theorem dev12 (c : Dev nD) : (⟨k0_dev12 c, k0_dev12_lt c⟩ : Dev nD) = px 0 c := by revert c; decide +kernel
/-- The device of the program's signal or copy number 13 is partner 2. -/
theorem dev13 (c : Dev nD) : (⟨k0_dev13 c, k0_dev13_lt c⟩ : Dev nD) = px 2 c := by revert c; decide +kernel
/-- The device of the program's signal or copy number 14 is partner 2. -/
theorem dev14 (c : Dev nD) : (⟨k0_dev14 c, k0_dev14_lt c⟩ : Dev nD) = px 2 c := by revert c; decide +kernel
/-- The device of the program's signal or copy number 15 is partner 2. -/
theorem dev15 (c : Dev nD) : (⟨k0_dev15 c, k0_dev15_lt c⟩ : Dev nD) = px 2 c := by revert c; decide +kernel
/-- The device of the program's signal or copy number 16 is partner 2. -/
theorem dev16 (c : Dev nD) : (⟨k0_dev16 c, k0_dev16_lt c⟩ : Dev nD) = px 2 c := by revert c; decide +kernel
/-- The device of the program's signal or copy number 17 is partner 0. -/
theorem dev17 (c : Dev nD) : (⟨k0_dev17 c, k0_dev17_lt c⟩ : Dev nD) = px 0 c := by revert c; decide +kernel
/-- The device of the program's signal or copy number 18 is partner 0. -/
theorem dev18 (c : Dev nD) : (⟨k0_dev18 c, k0_dev18_lt c⟩ : Dev nD) = px 0 c := by revert c; decide +kernel
/-- The device of the program's signal or copy number 19 is partner 0. -/
theorem dev19 (c : Dev nD) : (⟨k0_dev19 c, k0_dev19_lt c⟩ : Dev nD) = px 0 c := by revert c; decide +kernel
/-- The device of the program's signal or copy number 20 is partner 0. -/
theorem dev20 (c : Dev nD) : (⟨k0_dev20 c, k0_dev20_lt c⟩ : Dev nD) = px 0 c := by revert c; decide +kernel
/-- The device of the program's signal or copy number 21 is partner 1. -/
theorem dev21 (c : Dev nD) : (⟨k0_dev21 c, k0_dev21_lt c⟩ : Dev nD) = px 1 c := by revert c; decide +kernel
/-- The device of the program's signal or copy number 22 is partner 1. -/
theorem dev22 (c : Dev nD) : (⟨k0_dev22 c, k0_dev22_lt c⟩ : Dev nD) = px 1 c := by revert c; decide +kernel
/-- The device of the program's signal or copy number 23 is partner 1. -/
theorem dev23 (c : Dev nD) : (⟨k0_dev23 c, k0_dev23_lt c⟩ : Dev nD) = px 1 c := by revert c; decide +kernel
/-- The device of the program's signal or copy number 24 is partner 1. -/
theorem dev24 (c : Dev nD) : (⟨k0_dev24 c, k0_dev24_lt c⟩ : Dev nD) = px 1 c := by revert c; decide +kernel

/-! ## The parts

  Each is named after the part of the body it is about; its statement gives the number of copies started, received and seen read
  before it and after it. -/

section Parts

variable (K : GSem nD τ sig → ℕ) (c : Dev nD) (arg0 : Memref sig .tc .vmem S16x256x64 .bf16) (harg0 : arg0.IsWhole)
  (arg1 : Memref sig .tc .vmem S16x2x256x64 .bf16) (harg1 : arg1.IsWhole) (arg2 : Memref sig .tc .vmem S16x256x64 .f32) (harg2 : arg2.IsWhole)

set_option maxRecDepth 65536 in
/-- Part 4: from 0, 0 and 0 copies started, received and seen read to 2, 0 and 0. -/
theorem part4 (v2 v19 c0_i32_26 : BitVec 32) {Q : _ → sProp 𝕄} : St kv K c 0 0 0
    ⊢ iprop((∀ r, St kv K c 2 0 0 -∗ Q r) -∗ wp frame (wpE (defs₀ (F := F)) 𝒱₀ (c : Thread nD τ) none) Set.univ
        (k0_part4 arg0 harg0 arg1 harg1 arg2 harg2 (Memref.whole cc0_scratch0) (Memref.isWhole_whole _) cc0_scratch1 cc0_scratch2
          c v2 v19 c0_i32_26) Q) := by
  rw [k0_part4_eq_skeleton]; unfold k0_part4_skel
  iintro HS Hk
  iapply (step_send kv K c _ 0 (dev4 c) 0 0 rfl rfl rfl rfl _ _ _ _ rfl rfl (by decide) (by decide)) $$ [HS]
  · iexact HS
  iintro HS
  iapply (step_send kv K c _ 1 (dev5 c) 0 0 rfl rfl rfl rfl _ _ _ _ rfl rfl (by decide) (by decide)) $$ [HS]
  · iexact HS
  iintro HS
  iapply wp_done
  iapply Hk
  iexact HS

set_option maxRecDepth 65536 in
/-- Part 5: from 2, 0 and 0 copies started, received and seen read to 3, 1 and 0. -/
theorem part5 (v18 v29 : BitVec 32) {Q : _ → sProp 𝕄} : St kv K c 2 0 0
    ⊢ iprop((∀ r, St kv K c 3 1 0 -∗ Q r) -∗ wp frame (wpE (defs₀ (F := F)) 𝒱₀ (c : Thread nD τ) none) Set.univ
        (k0_part5 arg0 harg0 arg1 harg1 arg2 harg2 (Memref.whole cc0_scratch0) (Memref.isWhole_whole _) cc0_scratch1 cc0_scratch2
          c v18 v29) Q) := by
  rw [k0_part5_eq_skeleton]; unfold k0_part5_skel
  iintro HS Hk
  iapply (step_send kv K c _ 2 (dev6 c) 0 0 rfl rfl rfl rfl _ _ _ _ rfl rfl (by decide) (by decide)) $$ [HS]
  · iexact HS
  iintro HS
  iapply (step_recv kv K c 0 3 0 rfl (by decide) (by decide) rfl) $$ [HS]
  · iexact HS
  iintro HS
  iapply wp_done
  iapply Hk
  iexact HS

set_option maxRecDepth 65536 in
/-- Part 6: from 3, 1 and 0 copies started, received and seen read to 4, 3 and 0. -/
theorem part6 (v2 v40 : BitVec 32) {Q : _ → sProp 𝕄} : St kv K c 3 1 0
    ⊢ iprop((∀ r, St kv K c 4 3 0 -∗ Q r) -∗ wp frame (wpE (defs₀ (F := F)) 𝒱₀ (c : Thread nD τ) none) Set.univ
        (k0_part6 arg0 harg0 arg1 harg1 arg2 harg2 (Memref.whole cc0_scratch0) (Memref.isWhole_whole _) cc0_scratch1 cc0_scratch2
          c v2 v40) Q) := by
  rw [k0_part6_eq_skeleton]; unfold k0_part6_skel
  iintro HS Hk
  iapply (step_recv kv K c 1 3 0 rfl (by decide) (by decide) rfl) $$ [HS]
  · iexact HS
  iintro HS
  iapply (step_recv kv K c 2 3 0 rfl (by decide) (by decide) rfl) $$ [HS]
  · iexact HS
  iintro HS
  iapply (step_send kv K c _ 3 (dev7 c) 3 0 rfl rfl rfl rfl _ _ _ _ rfl rfl (by decide) (by decide)) $$ [HS]
  · iexact HS
  iintro HS
  iapply wp_done
  iapply Hk
  iexact HS

set_option maxRecDepth 65536 in
/-- Part 7: from 4, 3 and 0 copies started, received and seen read to 6, 3 and 0. -/
theorem part7 (v2 : BitVec 32) {Q : _ → sProp 𝕄} : St kv K c 4 3 0
    ⊢ iprop((∀ r, St kv K c 6 3 0 -∗ Q r) -∗ wp frame (wpE (defs₀ (F := F)) 𝒱₀ (c : Thread nD τ) none) Set.univ
        (k0_part7 arg0 harg0 arg1 harg1 arg2 harg2 (Memref.whole cc0_scratch0) (Memref.isWhole_whole _) cc0_scratch1 cc0_scratch2
          c v2) Q) := by
  rw [k0_part7_eq_skeleton]; unfold k0_part7_skel
  iintro HS Hk
  iapply (step_send kv K c _ 4 (dev8 c) 3 0 rfl rfl rfl rfl _ _ _ _ rfl rfl (by decide) (by decide)) $$ [HS]
  · iexact HS
  iintro HS
  iapply (step_send kv K c _ 5 (dev9 c) 3 0 rfl rfl rfl rfl _ _ _ _ rfl rfl (by decide) (by decide)) $$ [HS]
  · iexact HS
  iintro HS
  iapply wp_done
  iapply Hk
  iexact HS

set_option maxRecDepth 65536 in
/-- Part 8: from 6, 3 and 0 copies started, received and seen read to 8, 3 and 0. -/
theorem part8 (v2 v108 : BitVec 32) {Q : _ → sProp 𝕄} : St kv K c 6 3 0
    ⊢ iprop((∀ r, St kv K c 8 3 0 -∗ Q r) -∗ wp frame (wpE (defs₀ (F := F)) 𝒱₀ (c : Thread nD τ) none) Set.univ
        (k0_part8 arg0 harg0 arg1 harg1 arg2 harg2 (Memref.whole cc0_scratch0) (Memref.isWhole_whole _) cc0_scratch1 cc0_scratch2
          c v2 v108) Q) := by
  rw [k0_part8_eq_skeleton]; unfold k0_part8_skel
  iintro HS Hk
  iapply (step_send kv K c _ 6 (dev10 c) 3 0 rfl rfl rfl rfl _ _ _ _ rfl rfl (by decide) (by decide)) $$ [HS]
  · iexact HS
  iintro HS
  iapply (step_send kv K c _ 7 (dev11 c) 3 0 rfl rfl rfl rfl _ _ _ _ rfl rfl (by decide) (by decide)) $$ [HS]
  · iexact HS
  iintro HS
  iapply wp_done
  iapply Hk
  iexact HS

set_option maxRecDepth 65536 in
/-- Part 9: from 8, 3 and 0 copies started, received and seen read to 9, 4 and 0. -/
theorem part9 (v75 v86 v130 : BitVec 32) {Q : _ → sProp 𝕄} : St kv K c 8 3 0
    ⊢ iprop((∀ r, St kv K c 9 4 0 -∗ Q r) -∗ wp frame (wpE (defs₀ (F := F)) 𝒱₀ (c : Thread nD τ) none) Set.univ
        (k0_part9 arg0 harg0 arg1 harg1 arg2 harg2 (Memref.whole cc0_scratch0) (Memref.isWhole_whole _) cc0_scratch1 cc0_scratch2
          c v75 v86 v130) Q) := by
  rw [k0_part9_eq_skeleton]; unfold k0_part9_skel
  iintro HS Hk
  iapply (step_send kv K c _ 8 (dev12 c) 3 0 rfl rfl rfl rfl _ _ _ _ rfl rfl (by decide) (by decide)) $$ [HS]
  · iexact HS
  iintro HS
  iapply (step_recv kv K c 3 9 0 rfl (by decide) (by decide) rfl) $$ [HS]
  · iexact HS
  iintro HS
  iapply wp_done
  iapply Hk
  iexact HS

set_option maxRecDepth 65536 in
/-- Part 10: from 9, 4 and 0 copies started, received and seen read to 9, 6 and 0. -/
theorem part10 (v97 v108 : BitVec 32) {Q : _ → sProp 𝕄} : St kv K c 9 4 0
    ⊢ iprop((∀ r, St kv K c 9 6 0 -∗ Q r) -∗ wp frame (wpE (defs₀ (F := F)) 𝒱₀ (c : Thread nD τ) none) Set.univ
        (k0_part10 arg0 harg0 arg1 harg1 arg2 harg2 (Memref.whole cc0_scratch0) (Memref.isWhole_whole _) cc0_scratch1 cc0_scratch2
          v97 v108) Q) := by
  rw [k0_part10_eq_skeleton]; unfold k0_part10_skel
  iintro HS Hk
  iapply (step_recv kv K c 4 9 0 rfl (by decide) (by decide) rfl) $$ [HS]
  · iexact HS
  iintro HS
  iapply (step_recv kv K c 5 9 0 rfl (by decide) (by decide) rfl) $$ [HS]
  · iexact HS
  iintro HS
  iapply wp_done
  iapply Hk
  iexact HS

set_option maxRecDepth 65536 in
/-- Part 11: from 9, 6 and 0 copies started, received and seen read to 9, 9 and 0. -/
theorem part11 (v2 v119 v130 : BitVec 32) {Q : _ → sProp 𝕄} : St kv K c 9 6 0
    ⊢ iprop((∀ r, St kv K c 9 9 0 -∗ Q r) -∗ wp frame (wpE (defs₀ (F := F)) 𝒱₀ (c : Thread nD τ) none) Set.univ
        (k0_part11 arg0 harg0 arg1 harg1 arg2 harg2 (Memref.whole cc0_scratch0) (Memref.isWhole_whole _) cc0_scratch1 cc0_scratch2
          v2 v119 v130) Q) := by
  rw [k0_part11_eq_skeleton]; unfold k0_part11_skel
  iintro HS Hk
  iapply (step_recv kv K c 6 9 0 rfl (by decide) (by decide) rfl) $$ [HS]
  · iexact HS
  iintro HS
  iapply (step_recv kv K c 7 9 0 rfl (by decide) (by decide) rfl) $$ [HS]
  · iexact HS
  iintro HS
  iapply (step_recv kv K c 8 9 0 rfl (by decide) (by decide) rfl) $$ [HS]
  · iexact HS
  iintro HS
  iapply wp_done
  iapply Hk
  iexact HS

set_option maxRecDepth 65536 in
/-- Part 12: from 9, 9 and 0 copies started, received and seen read to 11, 9 and 0. -/
theorem part12 (v2 v189 : BitVec 32) {Q : _ → sProp 𝕄} : St kv K c 9 9 0
    ⊢ iprop((∀ r, St kv K c 11 9 0 -∗ Q r) -∗ wp frame (wpE (defs₀ (F := F)) 𝒱₀ (c : Thread nD τ) none) Set.univ
        (k0_part12 arg0 harg0 arg1 harg1 arg2 harg2 (Memref.whole cc0_scratch0) (Memref.isWhole_whole _) cc0_scratch1 cc0_scratch2
          c v2 v189) Q) := by
  rw [k0_part12_eq_skeleton]; unfold k0_part12_skel
  iintro HS Hk
  iapply (step_send kv K c _ 9 (dev13 c) 9 0 rfl rfl rfl rfl _ _ _ _ rfl rfl (by decide) (by decide)) $$ [HS]
  · iexact HS
  iintro HS
  iapply (step_send kv K c _ 10 (dev14 c) 9 0 rfl rfl rfl rfl _ _ _ _ rfl rfl (by decide) (by decide)) $$ [HS]
  · iexact HS
  iintro HS
  iapply wp_done
  iapply Hk
  iexact HS

set_option maxRecDepth 65536 in
/-- Part 13: from 11, 9 and 0 copies started, received and seen read to 13, 9 and 0. -/
theorem part13 (v2 v211 : BitVec 32) {Q : _ → sProp 𝕄} : St kv K c 11 9 0
    ⊢ iprop((∀ r, St kv K c 13 9 0 -∗ Q r) -∗ wp frame (wpE (defs₀ (F := F)) 𝒱₀ (c : Thread nD τ) none) Set.univ
        (k0_part13 arg0 harg0 arg1 harg1 arg2 harg2 (Memref.whole cc0_scratch0) (Memref.isWhole_whole _) cc0_scratch1 cc0_scratch2
          c v2 v211) Q) := by
  rw [k0_part13_eq_skeleton]; unfold k0_part13_skel
  iintro HS Hk
  iapply (step_send kv K c _ 11 (dev15 c) 9 0 rfl rfl rfl rfl _ _ _ _ rfl rfl (by decide) (by decide)) $$ [HS]
  · iexact HS
  iintro HS
  iapply (step_send kv K c _ 12 (dev16 c) 9 0 rfl rfl rfl rfl _ _ _ _ rfl rfl (by decide) (by decide)) $$ [HS]
  · iexact HS
  iintro HS
  iapply wp_done
  iapply Hk
  iexact HS

set_option maxRecDepth 65536 in
/-- Part 14: from 13, 9 and 0 copies started, received and seen read to 15, 9 and 0. -/
theorem part14 (v2 v233 c1_i32_385 : BitVec 32) {Q : _ → sProp 𝕄} : St kv K c 13 9 0
    ⊢ iprop((∀ r, St kv K c 15 9 0 -∗ Q r) -∗ wp frame (wpE (defs₀ (F := F)) 𝒱₀ (c : Thread nD τ) none) Set.univ
        (k0_part14 arg0 harg0 arg1 harg1 arg2 harg2 (Memref.whole cc0_scratch0) (Memref.isWhole_whole _) cc0_scratch1 cc0_scratch2
          c v2 v233 c1_i32_385) Q) := by
  rw [k0_part14_eq_skeleton]; unfold k0_part14_skel
  iintro HS Hk
  iapply (step_send kv K c _ 13 (dev17 c) 9 0 rfl rfl rfl rfl _ _ _ _ rfl rfl (by decide) (by decide)) $$ [HS]
  · iexact HS
  iintro HS
  iapply (step_send kv K c _ 14 (dev18 c) 9 0 rfl rfl rfl rfl _ _ _ _ rfl rfl (by decide) (by decide)) $$ [HS]
  · iexact HS
  iintro HS
  iapply wp_done
  iapply Hk
  iexact HS

set_option maxRecDepth 65536 in
/-- Part 15: from 15, 9 and 0 copies started, received and seen read to 17, 9 and 0. -/
theorem part15 (v2 v256 c0_i32_420 : BitVec 32) {Q : _ → sProp 𝕄} : St kv K c 15 9 0
    ⊢ iprop((∀ r, St kv K c 17 9 0 -∗ Q r) -∗ wp frame (wpE (defs₀ (F := F)) 𝒱₀ (c : Thread nD τ) none) Set.univ
        (k0_part15 arg0 harg0 arg1 harg1 arg2 harg2 (Memref.whole cc0_scratch0) (Memref.isWhole_whole _) cc0_scratch1 cc0_scratch2
          c v2 v256 c0_i32_420) Q) := by
  rw [k0_part15_eq_skeleton]; unfold k0_part15_skel
  iintro HS Hk
  iapply (step_send kv K c _ 15 (dev19 c) 9 0 rfl rfl rfl rfl _ _ _ _ rfl rfl (by decide) (by decide)) $$ [HS]
  · iexact HS
  iintro HS
  iapply (step_send kv K c _ 16 (dev20 c) 9 0 rfl rfl rfl rfl _ _ _ _ rfl rfl (by decide) (by decide)) $$ [HS]
  · iexact HS
  iintro HS
  iapply wp_done
  iapply Hk
  iexact HS

set_option maxRecDepth 65536 in
/-- Part 16: from 17, 9 and 0 copies started, received and seen read to 19, 9 and 0. -/
theorem part16 (v2 : BitVec 32) {Q : _ → sProp 𝕄} : St kv K c 17 9 0
    ⊢ iprop((∀ r, St kv K c 19 9 0 -∗ Q r) -∗ wp frame (wpE (defs₀ (F := F)) 𝒱₀ (c : Thread nD τ) none) Set.univ
        (k0_part16 arg0 harg0 arg1 harg1 arg2 harg2 (Memref.whole cc0_scratch0) (Memref.isWhole_whole _) cc0_scratch1 cc0_scratch2
          c v2) Q) := by
  rw [k0_part16_eq_skeleton]; unfold k0_part16_skel
  iintro HS Hk
  iapply (step_send kv K c _ 17 (dev21 c) 9 0 rfl rfl rfl rfl _ _ _ _ rfl rfl (by decide) (by decide)) $$ [HS]
  · iexact HS
  iintro HS
  iapply (step_send kv K c _ 18 (dev22 c) 9 0 rfl rfl rfl rfl _ _ _ _ rfl rfl (by decide) (by decide)) $$ [HS]
  · iexact HS
  iintro HS
  iapply wp_done
  iapply Hk
  iexact HS

set_option maxRecDepth 65536 in
/-- Part 17: from 19, 9 and 0 copies started, received and seen read to 21, 9 and 0. -/
theorem part17 (v2 v189 : BitVec 32) {Q : _ → sProp 𝕄} : St kv K c 19 9 0
    ⊢ iprop((∀ r, St kv K c 21 9 0 -∗ Q r) -∗ wp frame (wpE (defs₀ (F := F)) 𝒱₀ (c : Thread nD τ) none) Set.univ
        (k0_part17 arg0 harg0 arg1 harg1 arg2 harg2 (Memref.whole cc0_scratch0) (Memref.isWhole_whole _) cc0_scratch1 cc0_scratch2
          c v2 v189) Q) := by
  rw [k0_part17_eq_skeleton]; unfold k0_part17_skel
  iintro HS Hk
  iapply (step_send kv K c _ 19 (dev23 c) 9 0 rfl rfl rfl rfl _ _ _ _ rfl rfl (by decide) (by decide)) $$ [HS]
  · iexact HS
  iintro HS
  iapply (step_send kv K c _ 20 (dev24 c) 9 0 rfl rfl rfl rfl _ _ _ _ rfl rfl (by decide) (by decide)) $$ [HS]
  · iexact HS
  iintro HS
  iapply wp_done
  iapply Hk
  iexact HS

set_option maxRecDepth 65536 in
/-- Part 18: from 21, 9 and 0 copies started, received and seen read to 21, 12 and 0. -/
theorem part18 (v200 v211 : BitVec 32) {Q : _ → sProp 𝕄} : St kv K c 21 9 0
    ⊢ iprop((∀ r, St kv K c 21 12 0 -∗ Q r) -∗ wp frame (wpE (defs₀ (F := F)) 𝒱₀ (c : Thread nD τ) none) Set.univ
        (k0_part18 arg0 harg0 arg1 harg1 arg2 harg2 (Memref.whole cc0_scratch0) (Memref.isWhole_whole _) cc0_scratch1 cc0_scratch2
          v200 v211) Q) := by
  rw [k0_part18_eq_skeleton]; unfold k0_part18_skel
  iintro HS Hk
  iapply (step_recv kv K c 9 21 0 rfl (by decide) (by decide) rfl) $$ [HS]
  · iexact HS
  iintro HS
  iapply (step_recv kv K c 10 21 0 rfl (by decide) (by decide) rfl) $$ [HS]
  · iexact HS
  iintro HS
  iapply (step_recv kv K c 11 21 0 rfl (by decide) (by decide) rfl) $$ [HS]
  · iexact HS
  iintro HS
  iapply wp_done
  iapply Hk
  iexact HS

set_option maxRecDepth 65536 in
/-- Part 19: from 21, 12 and 0 copies started, received and seen read to 21, 14 and 0. -/
theorem part19 (v222 v233 v244 : BitVec 32) {Q : _ → sProp 𝕄} : St kv K c 21 12 0
    ⊢ iprop((∀ r, St kv K c 21 14 0 -∗ Q r) -∗ wp frame (wpE (defs₀ (F := F)) 𝒱₀ (c : Thread nD τ) none) Set.univ
        (k0_part19 arg0 harg0 arg1 harg1 arg2 harg2 (Memref.whole cc0_scratch0) (Memref.isWhole_whole _) cc0_scratch1 cc0_scratch2
          v222 v233 v244) Q) := by
  rw [k0_part19_eq_skeleton]; unfold k0_part19_skel
  iintro HS Hk
  iapply (step_recv kv K c 12 21 0 rfl (by decide) (by decide) rfl) $$ [HS]
  · iexact HS
  iintro HS
  iapply (step_recv kv K c 13 21 0 rfl (by decide) (by decide) rfl) $$ [HS]
  · iexact HS
  iintro HS
  iapply wp_done
  iapply Hk
  iexact HS

set_option maxRecDepth 65536 in
/-- Part 20: from 21, 14 and 0 copies started, received and seen read to 21, 16 and 0. -/
theorem part20 (v255 v266 : BitVec 32) {Q : _ → sProp 𝕄} : St kv K c 21 14 0
    ⊢ iprop((∀ r, St kv K c 21 16 0 -∗ Q r) -∗ wp frame (wpE (defs₀ (F := F)) 𝒱₀ (c : Thread nD τ) none) Set.univ
        (k0_part20 arg0 harg0 arg1 harg1 arg2 harg2 (Memref.whole cc0_scratch0) (Memref.isWhole_whole _) cc0_scratch1 cc0_scratch2
          v255 v266) Q) := by
  rw [k0_part20_eq_skeleton]; unfold k0_part20_skel
  iintro HS Hk
  iapply (step_recv kv K c 14 21 0 rfl (by decide) (by decide) rfl) $$ [HS]
  · iexact HS
  iintro HS
  iapply (step_recv kv K c 15 21 0 rfl (by decide) (by decide) rfl) $$ [HS]
  · iexact HS
  iintro HS
  iapply wp_done
  iapply Hk
  iexact HS

set_option maxRecDepth 65536 in
/-- Part 21: from 21, 16 and 0 copies started, received and seen read to 21, 19 and 0. -/
theorem part21 (v277 v288 : BitVec 32) {Q : _ → sProp 𝕄} : St kv K c 21 16 0
    ⊢ iprop((∀ r, St kv K c 21 19 0 -∗ Q r) -∗ wp frame (wpE (defs₀ (F := F)) 𝒱₀ (c : Thread nD τ) none) Set.univ
        (k0_part21 arg0 harg0 arg1 harg1 arg2 harg2 (Memref.whole cc0_scratch0) (Memref.isWhole_whole _) cc0_scratch1 cc0_scratch2
          v277 v288) Q) := by
  rw [k0_part21_eq_skeleton]; unfold k0_part21_skel
  iintro HS Hk
  iapply (step_recv kv K c 16 21 0 rfl (by decide) (by decide) rfl) $$ [HS]
  · iexact HS
  iintro HS
  iapply (step_recv kv K c 17 21 0 rfl (by decide) (by decide) rfl) $$ [HS]
  · iexact HS
  iintro HS
  iapply (step_recv kv K c 18 21 0 rfl (by decide) (by decide) rfl) $$ [HS]
  · iexact HS
  iintro HS
  iapply wp_done
  iapply Hk
  iexact HS

set_option maxRecDepth 65536 in
/-- Part 22: from 21, 19 and 0 copies started, received and seen read to 21, 21 and 0. -/
theorem part22 (v299 v310 c1_i32_680 : BitVec 32) {Q : _ → sProp 𝕄} : St kv K c 21 19 0
    ⊢ iprop((∀ r, St kv K c 21 21 0 -∗ Q r) -∗ wp frame (wpE (defs₀ (F := F)) 𝒱₀ (c : Thread nD τ) none) Set.univ
        (k0_part22 arg0 harg0 arg1 harg1 arg2 harg2 (Memref.whole cc0_scratch0) (Memref.isWhole_whole _) cc0_scratch1 cc0_scratch2
          v299 v310 c1_i32_680) Q) := by
  rw [k0_part22_eq_skeleton]; unfold k0_part22_skel
  iintro HS Hk
  iapply (step_recv kv K c 19 21 0 rfl (by decide) (by decide) rfl) $$ [HS]
  · iexact HS
  iintro HS
  iapply (step_recv kv K c 20 21 0 rfl (by decide) (by decide) rfl) $$ [HS]
  · iexact HS
  iintro HS
  iapply wp_done
  iapply Hk
  iexact HS

set_option maxRecDepth 65536 in
/-- Part 23: from 21, 21 and 0 copies started, received and seen read to 21, 21 and 3. -/
theorem part23 {Q : _ → sProp 𝕄} : St kv K c 21 21 0
    ⊢ iprop((∀ r, St kv K c 21 21 3 -∗ Q r) -∗ wp frame (wpE (defs₀ (F := F)) 𝒱₀ (c : Thread nD τ) none) Set.univ
        (k0_part23 arg0 harg0 arg1 harg1 arg2 harg2 (Memref.whole cc0_scratch0) (Memref.isWhole_whole _) cc0_scratch1 cc0_scratch2
          ) Q) := by
  rw [k0_part23_eq_skeleton]; unfold k0_part23_skel
  iintro HS Hk
  iapply (step_read kv K c 0 21 rfl rfl) $$ [HS]
  · iexact HS
  iintro HS
  iapply (step_read kv K c 1 21 rfl rfl) $$ [HS]
  · iexact HS
  iintro HS
  iapply (step_read kv K c 2 21 rfl rfl) $$ [HS]
  · iexact HS
  iintro HS
  iapply wp_done
  iapply Hk
  iexact HS

set_option maxRecDepth 65536 in
/-- Part 24: from 21, 21 and 3 copies started, received and seen read to 21, 21 and 6. -/
theorem part24 {Q : _ → sProp 𝕄} : St kv K c 21 21 3
    ⊢ iprop((∀ r, St kv K c 21 21 6 -∗ Q r) -∗ wp frame (wpE (defs₀ (F := F)) 𝒱₀ (c : Thread nD τ) none) Set.univ
        (k0_part24 arg0 harg0 arg1 harg1 arg2 harg2 (Memref.whole cc0_scratch0) (Memref.isWhole_whole _) cc0_scratch1 cc0_scratch2
          ) Q) := by
  rw [k0_part24_eq_skeleton]; unfold k0_part24_skel
  iintro HS Hk
  iapply (step_read kv K c 3 21 rfl rfl) $$ [HS]
  · iexact HS
  iintro HS
  iapply (step_read kv K c 4 21 rfl rfl) $$ [HS]
  · iexact HS
  iintro HS
  iapply (step_read kv K c 5 21 rfl rfl) $$ [HS]
  · iexact HS
  iintro HS
  iapply wp_done
  iapply Hk
  iexact HS

set_option maxRecDepth 65536 in
/-- Part 25: from 21, 21 and 6 copies started, received and seen read to 21, 21 and 8. -/
theorem part25 {Q : _ → sProp 𝕄} : St kv K c 21 21 6
    ⊢ iprop((∀ r, St kv K c 21 21 8 -∗ Q r) -∗ wp frame (wpE (defs₀ (F := F)) 𝒱₀ (c : Thread nD τ) none) Set.univ
        (k0_part25 arg0 harg0 arg1 harg1 arg2 harg2 (Memref.whole cc0_scratch0) (Memref.isWhole_whole _) cc0_scratch1 cc0_scratch2
          ) Q) := by
  rw [k0_part25_eq_skeleton]; unfold k0_part25_skel
  iintro HS Hk
  iapply (step_read kv K c 6 21 rfl rfl) $$ [HS]
  · iexact HS
  iintro HS
  iapply (step_read kv K c 7 21 rfl rfl) $$ [HS]
  · iexact HS
  iintro HS
  iapply wp_done
  iapply Hk
  iexact HS

set_option maxRecDepth 65536 in
/-- Part 26: from 21, 21 and 8 copies started, received and seen read to 21, 21 and 11. -/
theorem part26 {Q : _ → sProp 𝕄} : St kv K c 21 21 8
    ⊢ iprop((∀ r, St kv K c 21 21 11 -∗ Q r) -∗ wp frame (wpE (defs₀ (F := F)) 𝒱₀ (c : Thread nD τ) none) Set.univ
        (k0_part26 arg0 harg0 arg1 harg1 arg2 harg2 (Memref.whole cc0_scratch0) (Memref.isWhole_whole _) cc0_scratch1 cc0_scratch2
          ) Q) := by
  rw [k0_part26_eq_skeleton]; unfold k0_part26_skel
  iintro HS Hk
  iapply (step_read kv K c 8 21 rfl rfl) $$ [HS]
  · iexact HS
  iintro HS
  iapply (step_read kv K c 9 21 rfl rfl) $$ [HS]
  · iexact HS
  iintro HS
  iapply (step_read kv K c 10 21 rfl rfl) $$ [HS]
  · iexact HS
  iintro HS
  iapply wp_done
  iapply Hk
  iexact HS

set_option maxRecDepth 65536 in
/-- Part 27: from 21, 21 and 11 copies started, received and seen read to 21, 21 and 14. -/
theorem part27 {Q : _ → sProp 𝕄} : St kv K c 21 21 11
    ⊢ iprop((∀ r, St kv K c 21 21 14 -∗ Q r) -∗ wp frame (wpE (defs₀ (F := F)) 𝒱₀ (c : Thread nD τ) none) Set.univ
        (k0_part27 arg0 harg0 arg1 harg1 arg2 harg2 (Memref.whole cc0_scratch0) (Memref.isWhole_whole _) cc0_scratch1 cc0_scratch2
          ) Q) := by
  rw [k0_part27_eq_skeleton]; unfold k0_part27_skel
  iintro HS Hk
  iapply (step_read kv K c 11 21 rfl rfl) $$ [HS]
  · iexact HS
  iintro HS
  iapply (step_read kv K c 12 21 rfl rfl) $$ [HS]
  · iexact HS
  iintro HS
  iapply (step_read kv K c 13 21 rfl rfl) $$ [HS]
  · iexact HS
  iintro HS
  iapply wp_done
  iapply Hk
  iexact HS

set_option maxRecDepth 65536 in
/-- Part 28: from 21, 21 and 14 copies started, received and seen read to 21, 21 and 17. -/
theorem part28 {Q : _ → sProp 𝕄} : St kv K c 21 21 14
    ⊢ iprop((∀ r, St kv K c 21 21 17 -∗ Q r) -∗ wp frame (wpE (defs₀ (F := F)) 𝒱₀ (c : Thread nD τ) none) Set.univ
        (k0_part28 arg0 harg0 arg1 harg1 arg2 harg2 (Memref.whole cc0_scratch0) (Memref.isWhole_whole _) cc0_scratch1 cc0_scratch2
          ) Q) := by
  rw [k0_part28_eq_skeleton]; unfold k0_part28_skel
  iintro HS Hk
  iapply (step_read kv K c 14 21 rfl rfl) $$ [HS]
  · iexact HS
  iintro HS
  iapply (step_read kv K c 15 21 rfl rfl) $$ [HS]
  · iexact HS
  iintro HS
  iapply (step_read kv K c 16 21 rfl rfl) $$ [HS]
  · iexact HS
  iintro HS
  iapply wp_done
  iapply Hk
  iexact HS

set_option maxRecDepth 65536 in
/-- Part 29: from 21, 21 and 17 copies started, received and seen read to 21, 21 and 19. -/
theorem part29 {Q : _ → sProp 𝕄} : St kv K c 21 21 17
    ⊢ iprop((∀ r, St kv K c 21 21 19 -∗ Q r) -∗ wp frame (wpE (defs₀ (F := F)) 𝒱₀ (c : Thread nD τ) none) Set.univ
        (k0_part29 arg0 harg0 arg1 harg1 arg2 harg2 (Memref.whole cc0_scratch0) (Memref.isWhole_whole _) cc0_scratch1 cc0_scratch2
          ) Q) := by
  rw [k0_part29_eq_skeleton]; unfold k0_part29_skel
  iintro HS Hk
  iapply (step_read kv K c 17 21 rfl rfl) $$ [HS]
  · iexact HS
  iintro HS
  iapply (step_read kv K c 18 21 rfl rfl) $$ [HS]
  · iexact HS
  iintro HS
  iapply wp_done
  iapply Hk
  iexact HS

end Parts

end Cert.KernelIdeal.Run

end

end
-- ==== Proof.KernelIdealLoop.lean ====
module

public import proofs.«01_k».proof.Proof.KernelIdealTalk
public import Idealize.ShloMosaic.Lib.WritesUnit

@[expose] public section

noncomputable section

/-! # The sixteen trips over the gathered keys and values

Trip `k` reads row block `k` of the queries and, out of each of the eight slots, the keys and the values of row block `k`;
it stores one row block of the result. `outVal` is the whole array the trips leave. -/

namespace Cert.KernelIdeal.Run

open Cert.KernelIdeal Cert.KernelIdeal.Gen Cert.Exchange

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- There are sixteen trips. -/
theorem trips_eq : k0_t1_loop.trips = 16 := by decide +kernel

/-- Row block `k` of the queries, as the trip reads it. -/
def qLd (q : Vec F S16x256x64 .bf16) (k : Fin k0_t1_loop.trips) : Vec F S1x256x64 .bf16 :=
  fun x => q ((Rect.unit (s := S16x256x64) (k0_off1 k) S1x256x64.size (k0_off1_inb k)).emb x)

/-- One box of the gathered array, as the trip reads it. -/
def gLd (g : Vec F S8x16x2x256x64 .bf16) (off : Fin 5 → ℕ)
    (inb : ∀ a, off a + S1x1x1x256x64.size a ≤ S8x16x2x256x64.size a) : Vec F S1x1x1x256x64 .bf16 :=
  fun x => g ((Rect.unit (s := S8x16x2x256x64) off S1x1x1x256x64.size inb).emb x)

/-- The keys of trip `k`: those of the eight slots, one slot after the other. -/
def keyRows (g : Vec F S8x16x2x256x64 .bf16) (k : Fin k0_t1_loop.trips) : FVec F S2048x64 .bf16 :=
  k0_pay10 (k0_pay3 (gLd g (k0_off2 k) (k0_off2_inb k))) (k0_pay4 (gLd g (k0_off3 k) (k0_off3_inb k)))
    (k0_pay5 (gLd g (k0_off4 k) (k0_off4_inb k))) (k0_pay6 (gLd g (k0_off5 k) (k0_off5_inb k)))
    (k0_pay7 (gLd g (k0_off6 k) (k0_off6_inb k))) (k0_pay8 (gLd g (k0_off7 k) (k0_off7_inb k)))
    (k0_pay9 (gLd g (k0_off8 k) (k0_off8_inb k))) (gLd g (k0_off9 k) (k0_off9_inb k))

/-- The values of trip `k`: those of the eight slots, one slot after the other. -/
def valRows (g : Vec F S8x16x2x256x64 .bf16) (k : Fin k0_t1_loop.trips) : FVec F S2048x64 .bf16 :=
  k0_pay11 (gLd g (k0_off10 k) (k0_off10_inb k)) (gLd g (k0_off11 k) (k0_off11_inb k))
    (gLd g (k0_off12 k) (k0_off12_inb k)) (gLd g (k0_off13 k) (k0_off13_inb k))
    (gLd g (k0_off14 k) (k0_off14_inb k)) (gLd g (k0_off15 k) (k0_off15_inb k))
    (gLd g (k0_off16 k) (k0_off16_inb k)) (gLd g (k0_off17 k) (k0_off17_inb k))

/-- The row block trip `k` stores. -/
def outRow (q : Vec F S16x256x64 .bf16) (g : Vec F S8x16x2x256x64 .bf16) (k : Fin k0_t1_loop.trips) : FVec F S1x256x64 .f32 :=
  k0_pay1 (k0_pay2 (qLd q k)) (keyRows g k) (valRows g k)

/-- The trip that stores index `i`, and where in its row block. -/
def tripOf (i : S16x256x64.Idx) : Fin k0_t1_loop.trips := ⟨(i 0).val, by rw [trips_eq]; exact (i 0).isLt⟩
/-- The place of an index in the row block of its trip. -/
def inTrip (i : S16x256x64.Idx) : S1x256x64.Idx := fun a => match a with
  | ⟨0, _⟩ => (0 : Fin 1)
  | ⟨1, _⟩ => (i 1 : Fin 256)
  | ⟨2, _⟩ => (i 2 : Fin 64)

/-- The array the sixteen trips leave. -/
def outVal (q : Vec F S16x256x64 .bf16) (g : Vec F S8x16x2x256x64 .bf16) : Vec F S16x256x64 .f32 :=
  fun i => outRow q g (tripOf i) (inTrip i)

section
variable (c : Dev nD) (arg0 : Memref sig .tc .vmem S16x256x64 .bf16) (harg0 : arg0.IsWhole)
  (arg1 : Memref sig .tc .vmem S16x2x256x64 .bf16) (harg1 : arg1.IsWhole)
  (arg2 : Memref sig .tc .vmem S16x256x64 .f32) (harg2 : arg2.IsWhole)
  (f0 : BufTy.Contents (Elt F) arg0.view.ty) (g : Buf (Elt F) (scLoc c))

/-- ONE TRIP: the queries and the gathered array are read, and the trip's row block is written over the result. -/
theorem trip (f2 : BufTy.Contents (Elt F) arg2.view.ty) (k : Fin k0_t1_loop.trips) (Q : Unit → sProp 𝕄) :
    iprop((arg0.view.loc (c : Thread nD τ) ↦[arg0.view.set]{fullShare} f0)
        ∗ ((Memref.whole cc0_scratch0).view.loc (c : Thread nD τ) ↦[(Memref.whole cc0_scratch0).view.set]{fullShare} g)
        ∗ (arg2.view.loc (c : Thread nD τ) ↦[arg2.view.set]{fullShare} f2))
      ⊢ iprop((((arg0.view.loc (c : Thread nD τ) ↦[arg0.view.set]{fullShare} f0)
        ∗ ((Memref.whole cc0_scratch0).view.loc (c : Thread nD τ) ↦[(Memref.whole cc0_scratch0).view.set]{fullShare} g)
        ∗ (arg2.view.loc (c : Thread nD τ) ↦[arg2.view.set]{fullShare}
            arg2.view.writes (Elt F) f2 [⟨Rect.unit (k0_off1 k) S1x256x64.size (k0_off1_inb k),
              outRow (arg0.view.read (Elt F) f0) g k⟩])) -∗ Q ⟨⟩)
        -∗ wp frame (wpE (defs₀ (F := F)) 𝒱₀ (c : Thread nD τ) none) Set.univ
          (k0_t1_body (F := F) arg0 harg0 arg1 harg1 arg2 harg2 (Memref.whole cc0_scratch0) (Memref.isWhole_whole _)
            cc0_scratch1 cc0_scratch2 k PUnit.unit) Q) := by
  have hk : k.val < 16 := Nat.lt_of_lt_of_le k.isLt k0_t1_abs.2.1
  unfold k0_t1_body
  iintro ⟨HR_arg0, HR_arg3, HW_arg2⟩ HQ
  sl_exec
  sl_step
  iapply HQ
  isplitl [HR_arg0]; · iexact HR_arg0
  isplitl [HR_arg3]; · iexact HR_arg3
  iexact HW_arg2

/-- Before trip `k`: the rows of the trips before it are done. -/
def trips (q : Vec F S16x256x64 .bf16) (k : ℕ) : sProp 𝕄 :=
  iprop((arg0.view.loc (c : Thread nD τ) ↦[arg0.view.set]{fullShare} f0)
    ∗ ((Memref.whole cc0_scratch0).view.loc (c : Thread nD τ) ↦[(Memref.whole cc0_scratch0).view.set]{fullShare} g)
    ∗ ∃ f2, (arg2.view.loc (c : Thread nD τ) ↦[arg2.view.set]{fullShare} f2)
      ∗ ⌜∀ i : S16x256x64.Idx, (i 0).val < k → arg2.view.read (Elt F) f2 i = outVal q g i⌝)

/-- A trip's block written, the rows up to and including it are done. -/
theorem rows_succ (q : Vec F S16x256x64 .bf16) (f2 : BufTy.Contents (Elt F) arg2.view.ty) (k : Fin k0_t1_loop.trips)
    (h : ∀ i : S16x256x64.Idx, (i 0).val < k.val → arg2.view.read (Elt F) f2 i = outVal q g i)
    (i : S16x256x64.Idx) (hi : (i 0).val < k.val + 1) :
    arg2.view.read (Elt F) (arg2.view.writes (Elt F) f2 [⟨Rect.unit (k0_off1 k) S1x256x64.size (k0_off1_inb k),
      outRow q g k⟩]) i = outVal q g i := by
  by_cases hik : (i 0).val = k.val
  · have hk : tripOf i = k := Fin.ext hik
    refine (View.read_writes_cons_unit_of_mem arg2.view f2 (k0_off1_inb k) (outRow q g k) [] i (inTrip i) (k0_off1_eq k) ?_).trans ?_
    · intro a
      fin_cases a
      · show (i 0).val = k.val + 0; omega
      · show (i 1).val = 0 + (i 1).val; omega
      · show (i 2).val = 0 + (i 2).val; omega
    · unfold outVal; rw [hk]
  · refine (View.read_writes_cons_unit_of_not_mem arg2.view f2 (k0_off1_inb k) (outRow q g k) [] i (k0_off1_eq k) 0 (.inl ?_)).trans ?_
    · show (i 0).val < k.val; omega
    · exact h i (by omega)

/-- THE LOOP: the sixteen trips leave the whole result. -/
theorem loop_run {Q : PUnit → sProp 𝕄} (q : Vec F S16x256x64 .bf16) (hq : arg0.view.read (Elt F) f0 = q)
    (kk : PUnit → Prog (TpuEff nD τ sig (Elt F) Λ₀ .tc) PUnit) :
    iprop((arg0.view.loc (c : Thread nD τ) ↦[arg0.view.set]{fullShare} f0)
        ∗ ((Memref.whole cc0_scratch0).view.loc (c : Thread nD τ) ↦[(Memref.whole cc0_scratch0).view.set]{fullShare} g)
        ∗ ∃ f2, (arg2.view.loc (c : Thread nD τ) ↦[arg2.view.set]{fullShare} f2))
      ⊢ iprop((((arg0.view.loc (c : Thread nD τ) ↦[arg0.view.set]{fullShare} f0)
        ∗ ((Memref.whole cc0_scratch0).view.loc (c : Thread nD τ) ↦[(Memref.whole cc0_scratch0).view.set]{fullShare} g)
        ∗ ∃ f2, ⌜arg2.view.read (Elt F) f2 = outVal q g⌝ ∗ (arg2.view.loc (c : Thread nD τ) ↦[arg2.view.set]{fullShare} f2))
          -∗ wp frame (wpE (defs₀ (F := F)) 𝒱₀ (c : Thread nD τ) none) Set.univ (kk ⟨⟩) Q)
        -∗ wp frame (wpE (defs₀ (F := F)) 𝒱₀ (c : Thread nD τ) none) Set.univ
          (Scf.Loop.for k0_t1_loop k0_t1_ok ⟨⟩ (k0_t1_body (F := F) arg0 harg0 arg1 harg1 arg2 harg2
            (Memref.whole cc0_scratch0) (Memref.isWhole_whole _) cc0_scratch1 cc0_scratch2) >>= kk) Q) := by
  iintro ⟨H0, H3, ⟨%f2, H2⟩⟩ HQ
  iapply (Scf.wp_for_bind (M := 𝕄) frame (wpE (defs₀ (F := F)) 𝒱₀ (c : Thread nD τ) none) Set.univ _ _ _ k0_t1_ok PUnit.unit
    (k0_t1_body (F := F) arg0 harg0 arg1 harg1 arg2 harg2 (Memref.whole cc0_scratch0) (Memref.isWhole_whole _)
      cc0_scratch1 cc0_scratch2) (fun k _ => trips c arg0 arg2 f0 g q k) (fun k acc => ?_) (kk := kk)) $$ [H0 H3 H2]
  · unfold trips
    iintro ⟨H0, H3, ⟨%f2, H2, %h⟩⟩
    iapply (trip c arg0 harg0 arg1 harg1 arg2 harg2 f0 g f2 k) $$ [H0 H3 H2]
    · isplitl [H0]; · iexact H0
      isplitl [H3]; · iexact H3
      iexact H2
    iintro ⟨H0, H3, H2⟩
    isplitl [H0]; · iexact H0
    isplitl [H3]; · iexact H3
    iexists _; isplitl [H2]; · iexact H2
    ipureintro
    rw [hq]
    exact rows_succ c arg2 g q f2 k h
  · unfold trips
    isplitl [H0]; · iexact H0
    isplitl [H3]; · iexact H3
    iexists f2; isplitl [H2]; · iexact H2
    ipureintro; exact fun i hi => absurd hi (Nat.not_lt_zero _)
  iintro %acc
  unfold trips
  iintro ⟨H0, H3, ⟨%f, H2, %h⟩⟩
  iapply HQ
  isplitl [H0]; · iexact H0
  isplitl [H3]; · iexact H3
  iexists f; isplitr [H2]
  · ipureintro
    exact funext fun i => h i (by have := trips_eq; have := (i 0).isLt; exact this.trans_le (le_of_eq trips_eq.symm))
  iexact H2
end
end Cert.KernelIdeal.Run

end

end
-- ==== Proof.KernelIdealRegions.lean ====
module

public import proofs.«01_k».proof.Proof.KernelIdealLoop
public import Idealize.ShloMosaic.Lib.Pipeline.Value

@[expose] public section

noncomputable section

/-! # Cutting the scratch buffer and putting it together

Before the exchange the buffer is cut in the device's own slot and the twenty-one regions its partners' copies land in; after
it, it is put together from the thirds that were sent and the thirds that were kept. -/

namespace Cert.KernelIdeal.Run

open Cert.KernelIdeal Cert.KernelIdeal.Gen Cert.Exchange

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Vec F S16x2x256x64 .bf16)

/-! ## Sets of elements -/

/-- The device's own slot. -/
def own : Finset S8x16x2x256x64.Idx := Finset.univ.filter fun i => (i 0).val = 0

/-- An index is in the own slot when its slot is zero. -/
theorem mem_own {i : S8x16x2x256x64.Idx} : i ∈ own ↔ (i 0).val = 0 := by simp [own]

/-- The part of the rows an index lies in. -/
theorem part_exists (i : S8x16x2x256x64.Idx) : ∃ t : Fin 3, lo t ≤ (i 1).val ∧ (i 1).val < lo t + rows t := by
  have h : (i 1).val < 16 := (i 1).isLt
  by_cases h0 : (i 1).val < 6
  · exact ⟨0, by simp only [lo, rows, Matrix.cons_val_zero]; omega⟩
  by_cases h1 : (i 1).val < 11
  · exact ⟨1, by simp only [lo, rows, Matrix.cons_val_one, Matrix.cons_val_zero]; omega⟩
  · exact ⟨2, by simp only [lo, rows, Matrix.cons_val]; omega⟩

/-- No row lies in two parts. -/
theorem part_unique {t t' : Fin 3} {n : ℕ} (h : lo t ≤ n ∧ n < lo t + rows t) (h' : lo t' ≤ n ∧ n < lo t' + rows t') : t = t' := by
  fin_cases t <;> fin_cases t' <;> simp [lo, rows] at h h' ⊢ <;> omega

/-- Different parts of slots share no index. -/
theorem reg_disjoint {x x' : Fin 8 × Fin 3} (h : x ≠ x') : Disjoint (reg x.1 x.2) (reg x'.1 x'.2) := by
  rw [Finset.disjoint_left]; intro i hi hi'
  obtain ⟨h0, h1⟩ := mem_reg.mp hi
  obtain ⟨h0', h1'⟩ := mem_reg.mp hi'
  exact h (Prod.ext (Fin.ext (h0.symm.trans h0')) (part_unique h1 h1'))

/-- The own slot is its three parts. -/
theorem own_cover : own = Finset.univ.biUnion fun t : Fin 3 => reg 0 t := by
  ext i
  rw [mem_own, Finset.mem_biUnion]
  constructor
  · intro h
    obtain ⟨t, ht⟩ := part_exists i
    exact ⟨t, Finset.mem_univ _, mem_reg.mpr ⟨h, ht⟩⟩
  · rintro ⟨t, -, h⟩; exact (mem_reg.mp h).1

/-- In every part of every slot but the own a copy lands. -/
theorem lands (σ : Fin 8) (t : Fin 3) (h : σ ≠ 0) : ∃ e, dst e = σ ∧ part e = t := by revert σ t; decide +kernel

/-- Every index off the own slot lies where exactly one copy lands. -/
theorem rest_cover : (Finset.univ : Finset S8x16x2x256x64.Idx) \ own = Finset.univ.biUnion fun e : Fin 21 => reg (dst e) (part e) := by
  ext i
  rw [Finset.mem_sdiff, mem_own, Finset.mem_biUnion]
  constructor
  · rintro ⟨-, h⟩
    obtain ⟨t, ht⟩ := part_exists i
    obtain ⟨e, h1, h2⟩ := lands (i 0) t fun h0 => h (congrArg Fin.val h0)
    exact ⟨e, Finset.mem_univ _, mem_reg.mpr ⟨by rw [h1], by rw [h2]; exact ht⟩⟩
  · rintro ⟨e, -, h⟩
    refine ⟨Finset.mem_univ _, fun h0 => ?_⟩
    have h1 := (mem_reg.mp h).1
    have hm : (dst e, part e) ∈ Finset.univ.filter (·.1 ≠ (0 : Fin 8)) := by
      rw [← dst_image]; exact Finset.mem_image_of_mem _ (Finset.mem_univ e)
    exact (Finset.mem_filter.mp hm).2 (Fin.ext (h1.symm.trans h0))

/-- The parts of the slots make up the gathered array. -/
theorem all_cover : (Finset.univ : Finset S8x16x2x256x64.Idx) = Finset.univ.biUnion fun x : Fin 8 × Fin 3 => reg x.1 x.2 := by
  ext i
  rw [Finset.mem_biUnion]
  constructor
  · intro _
    obtain ⟨t, ht⟩ := part_exists i
    exact ⟨(i 0, t), Finset.mem_univ _, mem_reg.mpr ⟨rfl, ht⟩⟩
  · intro _; exact Finset.mem_univ _

/-! ## The buffer -/

/-- Over disjoint sets of elements, the buffer's points-to is the family of theirs. -/
theorem pts_biUnion {T : Type} [Fintype T] (c : Dev nD) (f : Buf (Elt F) (scLoc c)) (S : T → Finset S8x16x2x256x64.Idx)
    (h : ∀ t t', t ≠ t' → Disjoint (S t) (S t')) :
    (scLoc c ↦[Finset.univ.biUnion S]{fullShare} f : sProp 𝕄) = bigSep Finset.univ fun t => (scLoc c ↦[S t]{fullShare} f : sProp 𝕄) :=
  pointsTo_biUnion (ℓ := scLoc c) Finset.univ S fun t _ t' _ hne => h t t' hne

/-- The buffer whole is the own slot beside where the copies land. -/
theorem scratch_cut (c : Dev nD) (f : Buf (Elt F) (scLoc c)) :
    (scLoc c ↦{fullShare} f : sProp 𝕄)
      = iprop((scLoc c ↦[own]{fullShare} f) ∗ bigSep Finset.univ fun e : Fin 21 => rPts c (dst e) (part e) fullShare f) := by
  have h := pointsTo_split_subset (ℓ := scLoc c) (I := own) (S := Finset.univ) (q := fullShare) (f := f) (Ix := Unit) (Name := ℕ)
    (U := UU) (Lvl := ℕ) (Finset.subset_univ _)
  refine (BI.Entails.antisymm h.1 h.2).trans (congrArg (BI.sep _) ?_)
  refine Eq.trans (congrArg (fun S => (scLoc c ↦[S]{fullShare} f : sProp 𝕄)) rest_cover) ?_
  exact pts_biUnion c f (fun e : Fin 21 => reg (dst e) (part e))
    fun e e' hne => reg_disjoint (x := (dst e, part e)) (x' := (dst e', part e')) fun h => hne (dst_inj e e' h)

/-- The own slot, at its final contents, is what the copies of the own block send. -/
theorem own_sends (c : Dev nD) :
    (scLoc c ↦[own]{fullShare} G kv c : sProp 𝕄) = bigSep (avail 0 0) (sendPay kv c) := by
  refine Eq.trans (congrArg (fun S => (scLoc c ↦[S]{fullShare} G kv c : sProp 𝕄)) own_cover) ?_
  refine (pts_biUnion c (G kv c) (fun t : Fin 3 => reg 0 t)
    fun t t' hne => reg_disjoint (x := (0, t)) (x' := (0, t')) fun h => hne (Prod.mk.inj h).2).trans ?_
  have h1 : (bigSep Finset.univ fun t : Fin 3 => (scLoc c ↦[reg 0 t]{fullShare} G kv c : sProp 𝕄))
      = bigSep Finset.univ fun x : Fin 3 × Fin 3 => piece kv c (0, x.1, x.2) := by
    rw [bigSep_univ_prod]
    exact bigSep_congr fun t _ => rPts_thirds kv c 0 t
  rw [h1, ← own_image, bigSep_image_of_injOn own_inj]
  refine bigSep_congr fun x hx => ?_
  unfold sendPay sentThird
  rw [own_src x hx]

/-- The buffer whole, at its final contents, is all its thirds. -/
theorem scratch_thirds (c : Dev nD) :
    (scLoc c ↦{fullShare} G kv c : sProp 𝕄) = bigSep Finset.univ (piece kv c) := by
  refine Eq.trans (congrArg (fun S => (scLoc c ↦[S]{fullShare} G kv c : sProp 𝕄)) all_cover) ?_
  refine (pts_biUnion c (G kv c) (fun x : Fin 8 × Fin 3 => reg x.1 x.2) fun x x' hne => reg_disjoint hne).trans ?_
  rw [bigSep_univ_prod, bigSep_univ_prod]
  refine bigSep_congr fun σ _ => ?_
  rw [bigSep_univ_prod]
  exact bigSep_congr fun t _ => rPts_thirds kv c σ t

/-- What the copies read gave back and what was kept of those received make up the buffer. -/
theorem scratch_join (c : Dev nD) :
    iprop(bigSep Finset.univ (sendPay kv c)
        ∗ bigSep Finset.univ fun e : Fin 21 => bigSep (Finset.univ.filter (· ≤ rnd e)) fun r => piece kv c (dst e, part e, r))
      = (scLoc c ↦{fullShare} G kv c : sProp 𝕄) := by
  have hk : (bigSep Finset.univ fun e : Fin 21 => bigSep (Finset.univ.filter (· ≤ rnd e)) fun r => piece kv c (dst e, part e, r))
      = bigSep kept fun x => (piece kv c (keptThird x) : sProp 𝕄) := by
    unfold kept
    rw [bigSep_filter, bigSep_univ_prod]
    exact bigSep_congr fun e _ => bigSep_filter _ _ _
  rw [hk, scratch_thirds, ← thirds_cover, bigSep_two thirds_disjoint,
    bigSep_image_of_injOn (fun e _ e' _ h => sentThird_inj e e' h),
    bigSep_image_of_injOn (fun x _ x' _ h => keptThird_inj x x' h)]
  rfl

/-- A family over the copies, by the partner each copy goes to. -/
theorem by_via {Φ : Fin 21 → sProp 𝕄} : bigSep Finset.univ Φ
    = iprop(bigSep (Finset.univ.filter (via · = 0)) Φ ∗ bigSep (Finset.univ.filter (via · = 1)) Φ
        ∗ bigSep (Finset.univ.filter (via · = 2)) Φ) := by
  rw [show (Finset.univ : Finset (Fin 21)) = Finset.univ.filter (via · = 0) ∪ (Finset.univ.filter (via · = 1)
      ∪ Finset.univ.filter (via · = 2)) from by decide +kernel, bigSep_two (by decide +kernel), bigSep_two (by decide +kernel)]
  rw [show (Finset.univ.filter (via · = 0) ∪ (Finset.univ.filter (via · = 1) ∪ Finset.univ.filter (via · = 2)) : Finset (Fin 21))
    = Finset.univ from by decide +kernel]

/-- What a device hands its partner `j` with its signal. -/
theorem barPay_out (c : Dev nD) (j : Fin 3) :
    (barPay (px j c) j : sProp 𝕄) = bigSep (Finset.univ.filter (via · = j)) (landing c) := by
  unfold barPay; rw [px_px]

/-- What the three partners hand over: every place the device's copies land in. -/
theorem barPay_in (c : Dev nD) :
    (bigSep Finset.univ fun j => (barPay c j : sProp 𝕄)) = bigSep Finset.univ fun e => landing (px (via e) c) e := by
  have h (j : Fin 3) : (barPay c j : sProp 𝕄) = bigSep (Finset.univ.filter (via · = j)) fun e => landing (px (via e) c) e := by
    unfold barPay
    exact bigSep_congr fun e he => by rw [(Finset.mem_filter.mp he).2]
  rw [by_via, bigSep_univ_eq_bigSepL [(0 : Fin 3), (1 : Fin 3), (2 : Fin 3)] (by decide) (by decide), ← h, ← h, ← h]
  simp only [bigSepL_cons_cons, bigSepL_singleton]
  rfl

/-- What is stored is the device's block, its indices one axis longer. -/
theorem pay12_apply (v : Vec F S16x2x256x64 .bf16) (x : S1x16x2x256x64.Idx) : k0_pay12 v x = v fun a => x a.succ := by
  unfold k0_pay12
  rw [shapeCast_self]
  exact shapeCast_addUnit_apply (n := 4) ![16, 2, 256, 64] v _ x

/-- The elements the store covers. -/
theorem store_set (inb : ∀ a, (![0, 0, 0, 0, 0] : Fin 5 → ℕ) a + S1x16x2x256x64.size a ≤ S8x16x2x256x64.size a) :
    ((Memref.whole cc0_scratch0).access (Rect.unit (s := S8x16x2x256x64) ![0, 0, 0, 0, 0] S1x16x2x256x64.size inb)).set = own := by
  show ((View.whole cc0_scratch0).slice _).set = _
  rw [View.set_slice_whole]
  ext i
  rw [Rect.mem_set_unit, mem_own]
  constructor
  · intro h
    have h0 : (i 0).val < 0 + 1 := (h 0).2
    omega
  · intro h0 d
    have l1 : (i 1).val < 16 := (i 1).isLt
    have l2 : (i 2).val < 2 := (i 2).isLt
    have l3 : (i 3).val < 256 := (i 3).isLt
    have l4 : (i 4).val < 64 := (i 4).isLt
    fin_cases d
    · exact ⟨Nat.zero_le _, by show (i 0).val < 0 + 1; omega⟩
    · exact ⟨Nat.zero_le _, by show (i 1).val < 0 + 16; omega⟩
    · exact ⟨Nat.zero_le _, by show (i 2).val < 0 + 2; omega⟩
    · exact ⟨Nat.zero_le _, by show (i 3).val < 0 + 256; omega⟩
    · exact ⟨Nat.zero_le _, by show (i 4).val < 0 + 64; omega⟩

/-- In the own slot, the final contents are the device's own block. -/
theorem G_own (c : Dev nD) (y : S8x16x2x256x64.Idx) (h : (y 0).val = 0) : G kv c y = kv c (tl y) := by
  have hz : y 0 = (0 : Fin 8) := Fin.ext h
  unfold G
  rw [hz, xr_zero]

/-- What the store leaves in the own slot is its final contents there. -/
theorem own_stored (c : Dev nD) (f : Buf (Elt F) (scLoc c))
    (inb : ∀ a, (![0, 0, 0, 0, 0] : Fin 5 → ℕ) a + S1x16x2x256x64.size a ≤ S8x16x2x256x64.size a) (i : S8x16x2x256x64.Idx)
    (hi : i ∈ own) :
    ((Memref.whole cc0_scratch0).access (Rect.unit (s := S8x16x2x256x64) ![0, 0, 0, 0, 0] S1x16x2x256x64.size inb)).write (Elt F) f
      (k0_pay12 (kv c)) Finset.univ i = G kv c i := by
  have hi' := hi
  rw [← store_set inb] at hi'
  obtain ⟨x, -, rfl⟩ := Finset.mem_map.mp hi'
  refine (View.write_emb_of_mem _ _ (Finset.mem_univ x)).trans ((pay12_apply (kv c) x).trans ?_)
  have h0 := mem_own.mp hi
  generalize hy : (((Memref.whole cc0_scratch0).access (Rect.unit (s := S8x16x2x256x64) ![0, 0, 0, 0, 0] S1x16x2x256x64.size inb)).emb x
    : S8x16x2x256x64.Idx) = y at h0
  have ht : (fun a : Fin 4 => x a.succ) = tl y := by
    subst hy
    funext d
    apply Fin.ext
    show (x d.succ).val = (![0, 0, 0, 0, 0] : Fin 5 → ℕ) d.succ + 1 * (x d.succ).val
    fin_cases d <;> simp
  exact (congrArg (kv c) ht).trans (G_own kv c y h0).symm

end Cert.KernelIdeal.Run

end

end
-- ==== Proof.KernelIdealBody.lean ====
module

public import proofs.«01_k».proof.Proof.KernelIdealRegions

@[expose] public section

noncomputable section

/-! # The kernel's body

From the state a device enters with, through the barrier, the exchange and the sixteen trips, to its result; then every
counter is taken back at zero. -/

namespace Cert.KernelIdeal.Run

open Cert.KernelIdeal Cert.KernelIdeal.Gen Cert.Exchange

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Vec F S16x2x256x64 .bf16)

/-- The empty assertion, however spelt. -/
theorem emp_hold : (iprop(emp) : sProp 𝕄) ⊢ (BI.emp : sProp 𝕄) := .rfl

/-- What signalling partner `j` takes: the duty's token on its barrier. -/
def signalGoods (c : Dev nD) (j : Fin 3) : sProp 𝕄 :=
  iprop(dutyTok ER (barCell (px j c)) 0 j ∗ reached ER (barCell (px j c)) 0)
/-- What starting copy `e` takes besides its source and where it lands. -/
def sendStart (c : Dev nD) (e : Fin 21) : sProp 𝕄 :=
  iprop(dutyTok ER (sendCell c e) 0 0 ∗ reached ER (sendCell c e) 0 ∗ dutyTok ER (recvCell (px (via e) c) e) 0 0)

/-- What device `c` enters the kernel with, its cells open. -/
def entry (K : GSem nD τ sig → ℕ) (c : Dev nD) : sProp 𝕄 :=
  iprop(Ctx kv K ∗ (signalGoods c 0 ∗ signalGoods c 1 ∗ signalGoods c 2)
    ∗ cred (tallyAt (barCell c) () 3) ∗ atPos ER (barCell c) 0 ∅ 0
    ∗ bigSep Finset.univ (sendStart (F := F) c)
    ∗ bigSep Finset.univ (recvGoods (F := F) c)
    ∗ (bigSep Finset.univ fun e : Fin 21 => (reached ER (recvCell c e) 0 : sProp 𝕄))
    ∗ bigSep Finset.univ fun e : Fin 21 => (atPos ER (sendCell c e) 0 ∅ 0 : sProp 𝕄))

/-- The three starts of a copy's goods beside the places it lands in. -/
theorem goods_join (c : Dev nD) :
    iprop(bigSep Finset.univ (sendStart (F := F) c) ∗ bigSep Finset.univ fun e => landing (F := F) (px (via e) c) e)
      ⊢ (bigSep Finset.univ (sendGoods (F := F) c) : sProp 𝕄) := by
  rw [← bigSep_sep']
  refine bigSep_mono fun e _ => ?_
  show sendStart c e ∗ landing (px (via e) c) e ⊢ sendGoods c e
  unfold sendStart sendGoods
  iintro ⟨⟨H1, H2, H3⟩, H4⟩
  isplitl [H1]; · iexact H1
  isplitl [H2]; · iexact H2
  isplitl [H3]; · iexact H3
  iexact H4

/-- The places the partners' copies land in, with their receive cells open. -/
theorem landing_join (c : Dev nD) (f : Buf (Elt F) (scLoc c)) :
    iprop((bigSep Finset.univ fun e : Fin 21 => (rPts c (dst e) (part e) fullShare f : sProp 𝕄))
        ∗ bigSep Finset.univ fun e : Fin 21 => (reached ER (recvCell c e) 0 : sProp 𝕄))
      ⊢ (bigSep Finset.univ (landing (F := F) c) : sProp 𝕄) := by
  rw [← bigSep_sep']
  refine bigSep_mono fun e _ => ?_
  show iprop(rPts c (dst e) (part e) fullShare f ∗ reached ER (recvCell c e) 0) ⊢ landing c e
  unfold landing
  iintro ⟨H1, H2⟩
  isplitl [H1]; · iexists f; iexact H1
  iexact H2

/-- Reading a whole staging memref is its view's reading. -/
theorem readAt_all (m : Memref sig .tc .vmem S16x2x256x64 .bf16) (f : m.view.ty.Contents (Elt F))
    (inb : ∀ d, (![0, 0, 0, 0] : Fin 4 → ℕ) d + S16x2x256x64.size d ≤ S16x2x256x64.size d) {v : Vec F S16x2x256x64 .bf16}
    (h : m.view.read (Elt F) f = v) :
    m.view.readAt (Elt F) (Rect.unit (s := S16x2x256x64) ![0, 0, 0, 0] S16x2x256x64.size inb).toLoadRect f = v := by
  subst h
  have h : ∀ (off : Fin 4 → ℕ) (_ : off = fun _ => 0) (inb : ∀ d, off d + S16x2x256x64.size d ≤ S16x2x256x64.size d),
      m.view.readAt (Elt F) (Rect.unit (s := S16x2x256x64) off S16x2x256x64.size inb).toLoadRect f = m.view.read (Elt F) f := by
    rintro off rfl inb
    funext x
    exact congrArg (m.view.read (Elt F) f) (Rect.emb_whole_apply _ x)
  exact h _ (funext fun a => by fin_cases a <;> rfl) inb

section
variable (K : GSem nD τ sig → ℕ) (c : Dev nD) (arg0 : Memref sig .tc .vmem S16x256x64 .bf16) (harg0 : arg0.IsWhole)
  (arg1 : Memref sig .tc .vmem S16x2x256x64 .bf16) (harg1 : arg1.IsWhole)
  (arg2 : Memref sig .tc .vmem S16x256x64 .f32) (harg2 : arg2.IsWhole)

/-- A device reads its own number. -/
theorem step_device {α : Type} {k : Dev nD → Prog (TpuEff nD τ sig (Elt F) Λ₀ .tc) α} {Q : α → sProp 𝕄} :
    wp frame (wpE (defs₀ (F := F)) 𝒱₀ (c : Thread nD τ) none) Set.univ (k c) Q
      ⊢ wp frame (wpE (defs₀ (F := F)) 𝒱₀ (c : Thread nD τ) none) Set.univ (.op .deviceId k) Q :=
  by rw [wp_deviceId]

/-- Returning a value, after an update. -/
theorem wp_done_upd {α : Type} {a : α} {Q : α → sProp 𝕄} :
    iprop(|={Set.univ}=> Q a) ⊢ wp frame (wpE (defs₀ (F := F)) 𝒱₀ (c : Thread nD τ) none) Set.univ (.ret a) Q := by
  rw [wp_ret]

/-- SIGNALLING PARTNER `j`: it gets the places its copies to this device land in. -/
theorem step_signal (j : Fin 3) (n : Dev nD) (hn : n = px j c) (O : CellTallies nD τ sig Unit) {O' : CellTallies nD τ sig Unit}
    (hO : O' = O + tallyAt (barCell (px j c)) () 1) (W : Waits sig Unit)
    {α : Type} {k : PUnit → Prog (TpuEff nD τ sig (Elt F) Λ₀ .tc) α} {Q : α → sProp 𝕄} :
    iprop(Ctx kv K ∗ signalGoods c j ∗ owes (c : Thread nD τ) O' W ∗ bigSep (Finset.univ.filter (via · = j)) (landing (F := F) c))
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ
          (.op (.semSignal (n, .tc) barS 1) k) Q) := by
  subst hn
  unfold Ctx signalGoods
  iintro ⟨⟨#Hrec, #HLv⟩, ⟨Htok, Hr⟩, HO, Hpay⟩ Hk
  iapply (Rounds.wp_signal 𝒱₀ ER (Rd kv) (c : Thread nD τ) none (dst := (px j c : Thread nD τ)) (sem := barS) (r := 0) (d := j)
    (κ := K (barCell (px j c))) (by rw [duties_bar]; exact Finset.mem_univ _) (amount_bar kv (px j c) j) () O hO) $$ [HO Htok Hr Hpay]
  · isplitr; · iapply (records_bar kv K (px j c)); iexact Hrec
    isplitl [HO]; · iexact HO
    isplitl [Htok]; · iexact Htok
    isplitl [Hpay]; · rw [payload_bar, barPay_out]; iexact Hpay
    iexact Hr
  iexact Hk

set_option maxRecDepth 65536 in
/-- THE BEGINNING: the barrier, and the device's own block stored in its slot. -/
theorem part3 (f1 : BufTy.Contents (Elt F) arg1.view.ty) (h1 : arg1.view.read (Elt F) f1 = kv c) (f3 : Buf (Elt F) (scLoc c))
    (W : Waits sig Unit) {Q : _ → sProp 𝕄} :
    iprop(entry kv K c ∗ owes (c : Thread nD τ) (O₀ c) W ∗ (arg1.view.loc (c : Thread nD τ) ↦[arg1.view.set]{fullShare} f1)
        ∗ (scLoc c ↦{fullShare} f3))
      ⊢ iprop((∀ v2 v18 v19 x, (St kv K c 0 0 0 ∗ atPos ER (barCell c) 1 ∅ 0
            ∗ (arg1.view.loc (c : Thread nD τ) ↦[arg1.view.set]{fullShare} f1)) -∗ Q ⟨c, v2, v18, v19, x⟩)
        -∗ wp frame (wpE (defs₀ (F := F)) 𝒱₀ (c : Thread nD τ) none) Set.univ
          (k0_part3 arg0 harg0 arg1 harg1 arg2 harg2 (Memref.whole cc0_scratch0) (Memref.isWhole_whole _) cc0_scratch1 cc0_scratch2) Q) := by
  rw [k0_part3_eq_skeleton]; unfold k0_part3_skel
  unfold entry
  rw [scratch_cut c f3]
  iintro ⟨⟨#HC, ⟨Hg0, Hg1, Hg2⟩, HcB, HatB, Hss, Hrg, Hrr, Hsp⟩, HO, H1, Hown, Hrest⟩ Hk
  ihave Hland := (landing_join c f3) $$ [Hrest Hrr]
  · isplitl [Hrest]; · iexact Hrest
    iexact Hrr
  ihave Hvia := (Entails.of_eq (by_via (Φ := landing (F := F) c))) $$ Hland
  icases Hvia with ⟨Hl0, Hl1, Hl2⟩
  iapply (step_device c)
  iapply (step_signal kv K c 0 _ (dev1 c) (oweS 0 c + tallyAt (barCell (px 2 c)) () 1 + tallyAt (barCell (px 1 c)) () 1) rfl W) $$ [Hg0 HO Hl0]
  · isplitr; · iexact HC
    isplitl [Hg0]; · iexact Hg0
    isplitl [HO]; · iexact HO
    iexact Hl0
  iintro HO
  iapply (step_signal kv K c 1 _ (dev2 c) (oweS 0 c + tallyAt (barCell (px 2 c)) () 1) rfl W) $$ [Hg1 HO Hl1]
  · isplitr; · iexact HC
    isplitl [Hg1]; · iexact Hg1
    isplitl [HO]; · iexact HO
    iexact Hl1
  iintro HO
  iapply (step_signal kv K c 2 _ (dev3 c) (oweS 0 c) rfl W) $$ [Hg2 HO Hl2]
  · isplitr; · iexact HC
    isplitl [Hg2]; · iexact Hg2
    isplitl [HO]; · iexact HO
    iexact Hl2
  iintro HO
  unfold Ctx
  icases HC with ⟨#Hrec, #HLv⟩
  iapply (Rounds.wp_wait_rest_token 𝒱₀ ER (Rd kv) (c : Thread nD τ) none (κ := K (barCell c))
      (wpE_semWait_eq 𝒱₀ (c : Thread nD τ) none Set.univ) (Set.mem_univ _) () (O := oweS 0 c) (W := W) (R := 0) (m := 0) (T := ∅)
      ((Nat.zero_add 3).trans (expect_bar kv c).symm)) $$ [HcB HO HatB]
  · isplitr; · iapply (records_bar kv K c); iexact Hrec
    isplitl [HcB]; · iexact HcB
    isplitl [HO]; · iexact HO
    isplitr
    · iapply (mayWait c (.reg barS) 0 1 (lv_bar c) (fun e _ => by omega)); iexact HLv
    iexact HatB
  iintro ⟨HO, HatB, -, Hpay⟩
  ihave Hp := (Entails.of_eq ((rest_bar kv c).trans (barPay_in c))) $$ Hpay
  ihave Hsg := (goods_join c) $$ [Hss Hp]
  · isplitl [Hss]; · iexact Hss
    iexact Hp
  iapply (wp_load 𝒱₀ (c : Thread nD τ) none Set.univ (m := arg1) (S := arg1.view.set) (View.setOn_subset_set _ _)) $$ [H1]
  · iexact H1
  iintro H1
  iapply (wp_load_rect 𝒱₀ (c : Thread nD τ) none Set.univ (m := Memref.whole cc0_scratch0)
    (r := Rect.unit ![0, 0, 0, 0, 0] S1x16x2x256x64.size inb_S8x16x2x256x64_S1x16x2x256x64_0_0_0_0_0) (S := own) (le_of_eq (store_set _))) $$ [Hown]
  · iexact Hown
  iintro Hown
  iapply (wp_store 𝒱₀ (c : Thread nD τ) none Set.univ (m := Memref.whole cc0_scratch0)
    (r := Rect.unit ![0, 0, 0, 0, 0] S1x16x2x256x64.size inb_S8x16x2x256x64_S1x16x2x256x64_0_0_0_0_0) (S := own) (le_of_eq (store_set _))) $$ [Hown]
  · iexact Hown
  iintro Hown
  iapply wp_done
  ihave Hs := (Entails.of_eq ((pointsTo_congr (fun i hi => (congrArg (fun v => ((Memref.whole cc0_scratch0).access
      (Rect.unit ![0, 0, 0, 0, 0] S1x16x2x256x64.size inb_S8x16x2x256x64_S1x16x2x256x64_0_0_0_0_0)).write (Elt F) f3 (k0_pay12 v)
        Finset.univ i) (readAt_all arg1 f1 _ h1)).trans
      (own_stored kv c f3 _ i hi))).trans (own_sends kv c))) $$ [Hown]
  · iexact Hown
  iapply Hk
  unfold St Ctx
  rw [left_zero, done_zero, mid_self, bigSep_empty, bigSep_empty, bigSep_empty]
  isplitr [HatB H1]
  · isplitr
    · isplitl []; · iexact Hrec
      iexact HLv
    isplitl [HO]; · iexists _; iexact HO
    isplitl [Hsg]; · iexact Hsg
    isplitl [Hs]; · iexact Hs
    isplitl [Hrg]; · iexact Hrg
    isplitr; · iapply emp_hold; iempintro
    isplitl [Hsp]; · iexact Hsp
    isplitr; · iapply emp_hold; iempintro
    iapply emp_hold; iempintro
  isplitl [HatB]; · iexact HatB
  iexact H1

/-- One part, then the rest. -/
theorem wp_seq {α β : Type} {p : Prog (TpuEff nD τ sig (Elt F) Λ₀ .tc) α} {k : α → Prog (TpuEff nD τ sig (Elt F) Λ₀ .tc) β}
    {Q : β → sProp 𝕄} :
    wp frame (wpE (defs₀ (F := F)) 𝒱₀ (c : Thread nD τ) none) Set.univ p
        (fun r => wp frame (wpE (defs₀ (F := F)) 𝒱₀ (c : Thread nD τ) none) Set.univ (k r) Q)
      ⊢ wp frame (wpE (defs₀ (F := F)) 𝒱₀ (c : Thread nD τ) none) Set.univ (p >>= k) Q := by rw [wp_bind]
end

/-- A send cell closes at zero. -/
theorem close_send (K : GSem nD τ sig → ℕ) (c : Dev nD) (e : Fin 21) :
    iprop(records kv K ∗ atPos ER (sendCell c e) 1 ∅ 0) ⊢ (iprop(|={Set.univ}=> semVal (sendCell c e) 0) : sProp 𝕄) := by
  iintro ⟨#Hrec, H⟩
  iapply (cell_close ER (Rd kv) (κ := K (sendCell c e)) (Es := Set.univ) (g := sendCell c e) (Set.mem_univ _) id (R := 1)
    (fun r hr => duties_later kv _ r hr))
  isplitr; · iapply (records_send kv K c e); iexact Hrec
  iexact H

/-- A receive cell closes at zero. -/
theorem close_recv (K : GSem nD τ sig → ℕ) (c : Dev nD) (e : Fin 21) :
    iprop(records kv K ∗ atPos ER (recvCell c e) 1 ∅ 0) ⊢ (iprop(|={Set.univ}=> semVal (recvCell c e) 0) : sProp 𝕄) := by
  iintro ⟨#Hrec, H⟩
  iapply (cell_close ER (Rd kv) (κ := K (recvCell c e)) (Es := Set.univ) (g := recvCell c e) (Set.mem_univ _) id (R := 1)
    (fun r hr => duties_later kv _ r hr))
  isplitr; · iapply (records_recv kv K c e); iexact Hrec
  iexact H

/-- All the counters of device `c`'s cells, at zero. -/
def counters (c : Dev nD) : sProp 𝕄 :=
  iprop(semVal (barCell c) 0 ∗ (bigSep Finset.univ fun e : Fin 21 => (semVal (sendCell c e) 0 : sProp 𝕄))
    ∗ bigSep Finset.univ fun e : Fin 21 => (semVal (recvCell c e) 0 : sProp 𝕄))

/-- Every cell, its last round over, closes at zero. -/
theorem close_all (K : GSem nD τ sig → ℕ) (c : Dev nD) :
    iprop(records kv K ∗ atPos ER (barCell c) 1 ∅ 0 ∗ (bigSep Finset.univ fun e : Fin 21 => (atPos ER (sendCell c e) 1 ∅ 0 : sProp 𝕄))
        ∗ bigSep Finset.univ fun e : Fin 21 => (atPos ER (recvCell c e) 1 ∅ 0 : sProp 𝕄))
      ⊢ iprop(|={Set.univ}=> counters (F := F) c) := by
  iintro ⟨#Hrec, HB, HS, HR⟩
  imod (cell_close ER (Rd kv) (κ := K (barCell c)) (Es := Set.univ) (g := barCell c) (Set.mem_univ _) id (R := 1)
    (fun r hr => duties_later kv _ r hr)) $$ [HB] with HB
  · isplitr; · iapply (records_bar kv K c); iexact Hrec
    iexact HB
  ihave HS' := (bigSep_with_persistent (R := records kv K) (Ψ := fun e : Fin 21 => iprop(|={Set.univ}=> semVal (sendCell c e) 0))
    (fun e _ => close_send kv K c e)) $$ [HS]
  · isplitr; · iexact Hrec
    iexact HS
  imod (bigSep_fupd _ _) $$ HS' with HS
  ihave HR' := (bigSep_with_persistent (R := records kv K) (Ψ := fun e : Fin 21 => iprop(|={Set.univ}=> semVal (recvCell c e) 0))
    (fun e _ => close_recv kv K c e)) $$ [HR]
  · isplitr; · iexact Hrec
    iexact HR
  imod (bigSep_fupd _ _) $$ HR' with HR
  imodintro
  unfold counters
  isplitl [HB]; · iexact HB
  isplitl [HS]; · iexact HS
  iexact HR

/-- What the exchange leaves, its goods sorted: the cells' positions and the whole scratch buffer. -/
theorem st_end (K : GSem nD τ sig → ℕ) (c : Dev nD) :
    St kv K c 21 21 21 ⊢ iprop(Ctx kv K ∗ (∃ W, owes (c : Thread nD τ) 0 W)
      ∗ (bigSep Finset.univ fun e : Fin 21 => (atPos ER (sendCell c e) 1 ∅ 0 : sProp 𝕄))
      ∗ (bigSep Finset.univ fun e : Fin 21 => (atPos ER (recvCell c e) 1 ∅ 0 : sProp 𝕄))
      ∗ (scLoc c ↦{fullShare} G kv c)) := by
  unfold St
  rw [left_end, avail_end, done_end, mid_self, oweS_end]
  rw [← scratch_join kv c]
  iintro ⟨HC, HO, -, -, -, HR, -, -, HS⟩
  ihave HR' := (Entails.of_eq (bigSep_sep' (s := Finset.univ) (Φ := fun e : Fin 21 => (atPos ER (recvCell c e) 1 ∅ 0 : sProp 𝕄))
    (Ψ := fun e : Fin 21 => bigSep (Finset.univ.filter (· ≤ rnd e)) fun r => piece kv c (dst e, part e, r)))) $$ [HR]
  · iexact HR
  ihave HS' := (Entails.of_eq (bigSep_sep' (s := Finset.univ) (Φ := fun e : Fin 21 => (atPos ER (sendCell c e) 1 ∅ 0 : sProp 𝕄))
    (Ψ := sendPay kv c))) $$ [HS]
  · iexact HS
  icases HR' with ⟨HR, HRp⟩
  icases HS' with ⟨HS, HSp⟩
  isplitl [HC]; · iexact HC
  isplitl [HO]; · iexact HO
  isplitl [HS]; · iexact HS
  isplitl [HR]; · iexact HR
  isplitl [HSp]; · iexact HSp
  iexact HRp

/-- The scratch buffer as its whole memref names it. -/
theorem scratch_whole (c : Dev nD) (g : Buf (Elt F) (scLoc c)) :
    (scLoc c ↦{fullShare} g : sProp 𝕄)
      = ((Memref.whole cc0_scratch0).view.loc (c : Thread nD τ) ↦[(Memref.whole cc0_scratch0).view.set]{fullShare} g) :=
  congrArg (fun S => (scLoc c ↦[S]{fullShare} g : sProp 𝕄)) (View.set_whole cc0_scratch0).symm

set_option maxRecDepth 65536 in
/-- THE BODY: from a device's entry state, its blocks staged, to its result staged, the gathered blocks in the scratch buffer and
    every counter at zero. -/
theorem body_run (K : GSem nD τ sig → ℕ) (c : Dev nD) (arg0 : Memref sig .tc .vmem S16x256x64 .bf16) (harg0 : arg0.IsWhole)
    (arg1 : Memref sig .tc .vmem S16x2x256x64 .bf16) (harg1 : arg1.IsWhole)
    (arg2 : Memref sig .tc .vmem S16x256x64 .f32) (harg2 : arg2.IsWhole)
    (f0 : BufTy.Contents (Elt F) arg0.view.ty) (f1 : BufTy.Contents (Elt F) arg1.view.ty) (q : Vec F S16x256x64 .bf16)
    (h0 : arg0.view.read (Elt F) f0 = q) (h1 : arg1.view.read (Elt F) f1 = kv c) (f3 : Buf (Elt F) (scLoc c))
    (W : Waits sig Unit) {Q : PUnit → sProp 𝕄} :
    iprop(entry kv K c ∗ owes (c : Thread nD τ) (O₀ c) W ∗ (arg0.view.loc (c : Thread nD τ) ↦[arg0.view.set]{fullShare} f0)
        ∗ (arg1.view.loc (c : Thread nD τ) ↦[arg1.view.set]{fullShare} f1)
        ∗ (∃ f2, (arg2.view.loc (c : Thread nD τ) ↦[arg2.view.set]{fullShare} f2)) ∗ (scLoc c ↦{fullShare} f3))
      ⊢ iprop(((∃ W, owes (c : Thread nD τ) 0 W) ∗ counters (F := F) c
          ∗ (arg0.view.loc (c : Thread nD τ) ↦[arg0.view.set]{fullShare} f0)
          ∗ (arg1.view.loc (c : Thread nD τ) ↦[arg1.view.set]{fullShare} f1)
          ∗ (∃ f2, ⌜arg2.view.read (Elt F) f2 = outVal q (G kv c)⌝ ∗ (arg2.view.loc (c : Thread nD τ) ↦[arg2.view.set]{fullShare} f2))
          ∗ (scLoc c ↦{fullShare} G kv c) -∗ Q ⟨⟩)
        -∗ wp frame (wpE (defs₀ (F := F)) 𝒱₀ (c : Thread nD τ) none) Set.univ
          (cc0_body arg0 harg0 arg1 harg1 arg2 harg2 (Memref.whole cc0_scratch0) (Memref.isWhole_whole _) cc0_scratch1 cc0_scratch2) Q) := by
  rw [cc0_body_eq_skeleton]; unfold cc0_body_skel
  iintro ⟨HE, HO, H0, H1, H2, H3⟩ Hk
  iapply (wp_seq c)
  iapply (part3 kv K c arg0 harg0 arg1 harg1 arg2 harg2 f1 h1 f3 W) $$ [HE HO H1 H3]
  · isplitl [HE]; · iexact HE
    isplitl [HO]; · iexact HO
    isplitl [H1]; · iexact H1
    iexact H3
  iintro %w2 %w18 %w19 %x3 ⟨HS, HB, H1⟩
  dsimp only
  iapply (wp_seq c)
  iapply (part4 kv K c arg0 harg0 arg1 harg1 arg2 harg2) $$ [HS]
  · iexact HS
  iintro %r4 HS
  obtain ⟨w29, w40⟩ := r4
  dsimp only
  iapply (wp_seq c)
  iapply (part5 kv K c arg0 harg0 arg1 harg1 arg2 harg2) $$ [HS]
  · iexact HS
  iintro %r5 HS
  iapply (wp_seq c)
  iapply (part6 kv K c arg0 harg0 arg1 harg1 arg2 harg2) $$ [HS]
  · iexact HS
  iintro %r6 HS
  iapply (wp_seq c)
  iapply (part7 kv K c arg0 harg0 arg1 harg1 arg2 harg2) $$ [HS]
  · iexact HS
  iintro %r7 HS
  obtain ⟨w86, w97, w108⟩ := r7
  dsimp only
  iapply (wp_seq c)
  iapply (part8 kv K c arg0 harg0 arg1 harg1 arg2 harg2) $$ [HS]
  · iexact HS
  iintro %r8 HS
  obtain ⟨w119, w130⟩ := r8
  dsimp only
  iapply (wp_seq c)
  iapply (part9 kv K c arg0 harg0 arg1 harg1 arg2 harg2) $$ [HS]
  · iexact HS
  iintro %r9 HS
  iapply (wp_seq c)
  iapply (part10 kv K c arg0 harg0 arg1 harg1 arg2 harg2) $$ [HS]
  · iexact HS
  iintro %r10 HS
  iapply (wp_seq c)
  iapply (part11 kv K c arg0 harg0 arg1 harg1 arg2 harg2) $$ [HS]
  · iexact HS
  iintro %r11 HS
  iapply (wp_seq c)
  iapply (part12 kv K c arg0 harg0 arg1 harg1 arg2 harg2) $$ [HS]
  · iexact HS
  iintro %r12 HS
  obtain ⟨w200, w211⟩ := r12
  dsimp only
  iapply (wp_seq c)
  iapply (part13 kv K c arg0 harg0 arg1 harg1 arg2 harg2) $$ [HS]
  · iexact HS
  iintro %r13 HS
  obtain ⟨w222, w233, x13⟩ := r13
  dsimp only
  iapply (wp_seq c)
  iapply (part14 kv K c arg0 harg0 arg1 harg1 arg2 harg2) $$ [HS]
  · iexact HS
  iintro %r14 HS
  obtain ⟨w244, w255, w256, x14⟩ := r14
  dsimp only
  iapply (wp_seq c)
  iapply (part15 kv K c arg0 harg0 arg1 harg1 arg2 harg2) $$ [HS]
  · iexact HS
  iintro %r15 HS
  obtain ⟨w266, w277⟩ := r15
  dsimp only
  iapply (wp_seq c)
  iapply (part16 kv K c arg0 harg0 arg1 harg1 arg2 harg2) $$ [HS]
  · iexact HS
  iintro %r16 HS
  obtain ⟨w288, w299⟩ := r16
  dsimp only
  iapply (wp_seq c)
  iapply (part17 kv K c arg0 harg0 arg1 harg1 arg2 harg2) $$ [HS]
  · iexact HS
  iintro %r17 HS
  iapply (wp_seq c)
  iapply (part18 kv K c arg0 harg0 arg1 harg1 arg2 harg2) $$ [HS]
  · iexact HS
  iintro %r18 HS
  iapply (wp_seq c)
  iapply (part19 kv K c arg0 harg0 arg1 harg1 arg2 harg2) $$ [HS]
  · iexact HS
  iintro %r19 HS
  iapply (wp_seq c)
  iapply (part20 kv K c arg0 harg0 arg1 harg1 arg2 harg2) $$ [HS]
  · iexact HS
  iintro %r20 HS
  iapply (wp_seq c)
  iapply (part21 kv K c arg0 harg0 arg1 harg1 arg2 harg2) $$ [HS]
  · iexact HS
  iintro %r21 HS
  iapply (wp_seq c)
  iapply (part22 kv K c arg0 harg0 arg1 harg1 arg2 harg2) $$ [HS]
  · iexact HS
  iintro %r22 HS
  iapply (wp_seq c)
  iapply (part23 kv K c arg0 harg0 arg1 harg1 arg2 harg2) $$ [HS]
  · iexact HS
  iintro %r23 HS
  iapply (wp_seq c)
  iapply (part24 kv K c arg0 harg0 arg1 harg1 arg2 harg2) $$ [HS]
  · iexact HS
  iintro %r24 HS
  iapply (wp_seq c)
  iapply (part25 kv K c arg0 harg0 arg1 harg1 arg2 harg2) $$ [HS]
  · iexact HS
  iintro %r25 HS
  iapply (wp_seq c)
  iapply (part26 kv K c arg0 harg0 arg1 harg1 arg2 harg2) $$ [HS]
  · iexact HS
  iintro %r26 HS
  iapply (wp_seq c)
  iapply (part27 kv K c arg0 harg0 arg1 harg1 arg2 harg2) $$ [HS]
  · iexact HS
  iintro %r27 HS
  iapply (wp_seq c)
  iapply (part28 kv K c arg0 harg0 arg1 harg1 arg2 harg2) $$ [HS]
  · iexact HS
  iintro %r28 HS
  iapply (wp_seq c)
  iapply (part29 kv K c arg0 harg0 arg1 harg1 arg2 harg2) $$ [HS]
  · iexact HS
  iintro %r29 HS
  iapply (step_read kv K c 19 21 rfl rfl) $$ [HS]
  · iexact HS
  iintro HS
  iapply (step_read kv K c 20 21 rfl rfl) $$ [HS]
  · iexact HS
  iintro HS
  ihave HS' := (st_end kv K c) $$ [HS]
  · iexact HS
  icases HS' with ⟨HC, HO, HSe, HRe, HG⟩
  unfold Ctx
  icases HC with ⟨#Hrec, #HLv⟩
  ihave HG' := (Entails.of_eq (scratch_whole c (G kv c))) $$ [HG]
  · iexact HG
  iapply (loop_run c arg0 harg0 arg1 harg1 arg2 harg2 f0 (G kv c) q h0) $$ [H0 HG' H2]
  · isplitl [H0]; · iexact H0
    isplitl [HG']; · iexact HG'
    iexact H2
  iintro ⟨H0, HG, H2⟩
  iapply (wp_done_upd c)
  imod (close_all kv K c) $$ [HB HSe HRe] with Hc
  · isplitr; · iexact Hrec
    isplitl [HB]; · iexact HB
    isplitl [HSe]; · iexact HSe
    iexact HRe
  imodintro
  iapply Hk
  isplitl [HO]; · iexact HO
  isplitl [Hc]; · iexact Hc
  isplitl [H0]; · iexact H0
  isplitl [H1]; · iexact H1
  isplitl [H2]; · iexact H2
  iapply (Entails.of_eq (scratch_whole c (G kv c)).symm)
  iexact HG

end Cert.KernelIdeal.Run

end

end
-- ==== Proof.KernelIdealDeal.lean ====
module

public import proofs.«01_k».proof.Proof.KernelIdealBody
public import Idealize.ShloMosaic.Lib.Pipeline.RegionTalk

@[expose] public section

noncomputable section

/-! # Dealing the cells

At the program's launch every cell's invariant is allocated: the barrier cells from their counters, the send and receive cells,
whose counters are in the kernel's keeping, dormant. The tokens go to the devices that pay them, the launch credit to the
devices that wait. At the kernel's entry a device opens its own cells. -/

namespace Cert.KernelIdeal.Run

open Cert.KernelIdeal Cert.KernelIdeal.Gen Cert.Exchange

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kv : Dev nD → Vec F S16x2x256x64 .bf16)

/-- The kernel's own semaphores: one to send on and one to receive on for each copy. -/
def osem (x : Fin 2 × Fin 21) : SemLoc sig := .dma (match x.1 with | 0 => sendS x.2 | 1 => recvS x.2)

/-- The listing of the kernel's own semaphores names each once. -/
theorem osem_inj : Function.Injective osem := by
  rintro ⟨k, e⟩ ⟨k', e'⟩ h
  have h' := SemLoc.dma.inj h
  fin_cases k <;> fin_cases k'
  · exact congrArg _ (sendS_inj h')
  · exact absurd h' (sendS_ne_recvS e e')
  · exact absurd h'.symm (sendS_ne_recvS e' e)
  · exact congrArg _ (recvS_inj h')

/-- They are the kernel's to use and to give back. -/
theorem ownFacts : Pipeline.OwnSemFacts spec0 osem where
  isScoped := by decide +kernel
  inj := osem_inj
  disj := by decide +kernel

/-- Two summands, spelt as the proof mode reads them. -/
theorem bigSep_pair2 (Φ : Fin 2 → sProp 𝕄) : bigSep Finset.univ Φ = iprop(Φ 0 ∗ Φ 1) := BI.bigSep_fin_two Φ

/-- All at zero, they are the send semaphores and the receive semaphores at zero. -/
theorem ownSems_eq (c : Dev nD) : (Pipeline.ownSems0 osem c : sProp 𝕄)
    = iprop((bigSep Finset.univ fun e : Fin 21 => (semVal (sendCell c e) 0 : sProp 𝕄))
        ∗ bigSep Finset.univ fun e : Fin 21 => (semVal (recvCell c e) 0 : sProp 𝕄)) := by
  unfold Pipeline.ownSems0
  exact (bigSep_univ_prod _).trans (bigSep_pair2 _)

/-! ## The cells and the tokens -/

/-- A barrier is no copy's semaphore. -/
theorem reg_ne_dma (a : Sem sig) (b : DmaSem sig) : (SemLoc.reg a : SemLoc sig) ≠ .dma b := fun h => by cases h

/-- The barriers, one per device; -/
def barEmb : Dev nD ↪ GSem nD τ sig := ⟨fun c => barCell c, fun _ _ h => congrArg (fun g : GSem nD τ sig => g.1.1) h⟩
/-- the send and receive semaphores, by device, kind and copy. -/
def scEmb : Dev nD × Fin 2 × Fin 21 ↪ GSem nD τ sig :=
  ⟨fun x => ((x.1 : Thread nD τ), osem x.2), fun _ _ h =>
    Prod.ext (congrArg (fun g : GSem nD τ sig => g.1.1) h) (osem_inj (congrArg Prod.snd h))⟩

/-- All barriers; -/
abbrev barCells : Finset (GSem nD τ sig) := Finset.univ.map barEmb
/-- all send and receive semaphores. -/
abbrev scCells : Finset (GSem nD τ sig) := Finset.univ.map scEmb

/-- No barrier is a send or receive semaphore. -/
theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact reg_ne_dma _ _ (congrArg (fun g : GSem nD τ sig => g.2) h).symm

/-- The barrier cells' tokens, one for each partner, -/
def barTokEmb : Dev nD × Fin 3 ↪ GSem nD τ sig × ℕ × Fin 3 :=
  ⟨fun x => (barCell x.1, 0, x.2), fun _ _ h =>
    Prod.ext (congrArg (fun t : GSem nD τ sig × ℕ × Fin 3 => t.1.1.1) h) (congrArg (fun t : GSem nD τ sig × ℕ × Fin 3 => t.2.2) h)⟩
/-- and the send and receive cells'. -/
def scTokEmb : Dev nD × Fin 2 × Fin 21 ↪ GSem nD τ sig × ℕ × Fin 3 :=
  ⟨fun x => (scEmb x, 0, 0), fun _ _ h => scEmb.injective (congrArg Prod.fst h)⟩

/-- A token for each duty. -/
def toks : Finset (GSem nD τ sig × ℕ × Fin 3) := Finset.univ.map barTokEmb ∪ Finset.univ.map scTokEmb

/-- The barriers' tokens are not the others'. -/
theorem disjoint_toks : Disjoint (Finset.univ.map barTokEmb) (Finset.univ.map scTokEmb) := by
  rw [Finset.disjoint_left]
  rintro g h₁ h₂
  obtain ⟨x, -, rfl⟩ := Finset.mem_map.mp h₁
  obtain ⟨y, -, h⟩ := Finset.mem_map.mp h₂
  exact reg_ne_dma _ _ (congrArg (fun t : GSem nD τ sig × ℕ × Fin 3 => t.1.2) h).symm

/-- Everything over the send and receive cells, as two families. -/
theorem over_sc (Φ : GSem nD τ sig → sProp 𝕄) :
    (bigSep Finset.univ fun x : Dev nD × Fin 2 × Fin 21 => Φ (scEmb x))
      = bigSep Finset.univ fun c : Dev nD => iprop((bigSep Finset.univ fun e : Fin 21 => Φ (sendCell c e))
          ∗ bigSep Finset.univ fun e : Fin 21 => Φ (recvCell c e)) :=
  (bigSep_univ_prod _).trans (bigSep_congr fun c _ => (bigSep_univ_prod _).trans (bigSep_pair2 _))

/-- Partner by partner, a device and its partner change places. -/
def barTurn : Dev nD × Fin 3 ≃ Dev nD × Fin 3 :=
  ⟨fun x => (px x.2 x.1, x.2), fun x => (px x.2 x.1, x.2), fun x => Prod.ext (px_px x.2 x.1) rfl, fun x => Prod.ext (px_px x.2 x.1) rfl⟩
/-- Copy by copy, sender and receiver change places. -/
def recvTurn : Dev nD × Fin 21 ≃ Dev nD × Fin 21 :=
  ⟨fun x => (px (via x.2) x.1, x.2), fun x => (px (via x.2) x.1, x.2), fun x => Prod.ext (px_px (via x.2) x.1) rfl,
    fun x => Prod.ext (px_px (via x.2) x.1) rfl⟩

/-- The tokens of what device `c` pays: its partners' barriers, its own send cells, the cells its copies land on. -/
def pays (c : Dev nD) : sProp 𝕄 :=
  iprop((bigSep Finset.univ fun j : Fin 3 => (dutyTok ER (barCell (px j c)) 0 j : sProp 𝕄))
    ∗ bigSep Finset.univ fun e : Fin 21 => iprop(dutyTok ER (sendCell c e) 0 0 ∗ dutyTok ER (recvCell (px (via e) c) e) 0 0))

/-- All the tokens, carried to the devices that pay them. -/
theorem toks_dealt : (bigSep toks fun x => (dutyTok ER x.1 x.2.1 x.2.2 : sProp 𝕄)) = bigSep Finset.univ (pays (F := F)) := by
  have hb : (bigSep (Finset.univ.map barTokEmb) fun x => (dutyTok ER x.1 x.2.1 x.2.2 : sProp 𝕄))
      = bigSep Finset.univ fun c : Dev nD => bigSep Finset.univ fun j : Fin 3 => (dutyTok ER (barCell (px j c)) 0 j : sProp 𝕄) := by
    rw [bigSep_map]
    exact (bigSep_univ_equiv barTurn (fun x : Dev nD × Fin 3 => (dutyTok ER (barCell x.1) 0 x.2 : sProp 𝕄))).trans
      (bigSep_univ_prod _)
  have hr : (bigSep Finset.univ fun c : Dev nD => bigSep Finset.univ fun e : Fin 21 => (dutyTok ER (recvCell c e) 0 0 : sProp 𝕄))
      = bigSep Finset.univ fun c : Dev nD => bigSep Finset.univ fun e : Fin 21 => (dutyTok ER (recvCell (px (via e) c) e) 0 0 : sProp 𝕄) :=
    (bigSep_univ_prod (fun x : Dev nD × Fin 21 => (dutyTok ER (recvCell x.1 x.2) 0 0 : sProp 𝕄))).symm.trans
      ((bigSep_univ_equiv recvTurn (fun x : Dev nD × Fin 21 => (dutyTok ER (recvCell x.1 x.2) 0 0 : sProp 𝕄))).trans (bigSep_univ_prod _))
  have hs : (bigSep (Finset.univ.map scTokEmb) fun x => (dutyTok ER x.1 x.2.1 x.2.2 : sProp 𝕄))
      = bigSep Finset.univ fun c : Dev nD => bigSep Finset.univ fun e : Fin 21 =>
          iprop(dutyTok ER (sendCell c e) 0 0 ∗ dutyTok ER (recvCell (px (via e) c) e) 0 0) := by
    rw [bigSep_map]
    refine (over_sc (fun g => (dutyTok ER g 0 0 : sProp 𝕄))).trans ?_
    rw [bigSep_sep', hr, ← bigSep_sep']
    exact bigSep_congr fun c _ => (bigSep_sep' ..).symm
  unfold toks
  rw [bigSep_union disjoint_toks, hb, hs]
  exact (bigSep_sep' ..).symm

/-! ## The launch credit -/

/-- A device's signal to partner `j` goes to that partner's barrier alone, -/
theorem bar_at (j : Fin 3) (d c : Dev nD) :
    (tallyAt (barCell (px j d)) () 1 : CellTallies nD τ sig Unit) (barCell c) () = if d = px j c then 1 else 0 := by
  rw [tallyAt_apply]
  by_cases h : d = px j c
  · subst h; rw [px_px, if_pos ⟨rfl, rfl⟩, if_pos rfl]
  · refine (if_neg fun h' => h ?_).trans (if_neg h).symm
    have : c = px j d := congrArg (fun g : GSem nD τ sig => g.1.1) h'.1
    rw [this, px_px]

/-- and to no receive semaphore. -/
theorem bar_recv (j : Fin 3) (d c : Dev nD) (e : Fin 21) :
    (tallyAt (barCell (px j d)) () 1 : CellTallies nD τ sig Unit) (recvCell c e) () = 0 := by
  rw [tallyAt_apply]; exact if_neg fun h => reg_ne_dma _ _ (congrArg (fun g : GSem nD τ sig => g.2) h.1).symm

/-- The debts for copies are owed to no barrier, -/
theorem oweS_bar (d c : Dev nD) : oweS 0 d (barCell c) () = 0 := by
  by_contra h
  obtain ⟨e, -, he⟩ := oweS_pos (Nat.pos_of_ne_zero h)
  exact reg_ne_dma _ _ (congrArg (fun g : GSem nD τ sig => g.2) he)

/-- but to the receive semaphore of the partner that the copy goes to. -/
theorem oweS_recv (d c : Dev nD) (e : Fin 21) : oweS 0 d (recvCell c e) () = if d = px (via e) c then cr e else 0 := by
  unfold oweS
  rw [left_zero, Finset.sum_apply, Finsupp.finset_sum_apply]
  rw [Finset.sum_eq_single e (fun e' _ hne => by
    rw [tallyAt_apply]; exact if_neg fun h => hne (recvS_inj (SemLoc.dma.inj (congrArg Prod.snd h.1))).symm)
    (fun h => absurd (Finset.mem_univ e) h), tallyAt_apply]
  by_cases h : d = px (via e) c
  · subst h; rw [px_px, if_pos ⟨rfl, rfl⟩, if_pos rfl]
  · refine (if_neg fun h' => h ?_).trans (if_neg h).symm
    have : c = px (via e) d := congrArg (fun g : GSem nD τ sig => g.1.1) h'.1
    rw [this, px_px]

/-- At the start a barrier is owed one unit by each partner, -/
theorem owed_bar (d c : Dev nD) : O₀ d (barCell c) ()
    = (if d = px 2 c then 1 else 0) + (if d = px 1 c then 1 else 0) + (if d = px 0 c then 1 else 0) := by
  unfold O₀
  rw [Pi.add_apply, Finsupp.add_apply, Pi.add_apply, Finsupp.add_apply, Pi.add_apply, Finsupp.add_apply, oweS_bar, bar_at, bar_at, bar_at,
    Nat.zero_add]

/-- and a receive semaphore its credit by the one device that copies onto it. -/
theorem owed_recv (d c : Dev nD) (e : Fin 21) : O₀ d (recvCell c e) () = if d = px (via e) c then cr e else 0 := by
  unfold O₀
  rw [Pi.add_apply, Finsupp.add_apply, Pi.add_apply, Finsupp.add_apply, Pi.add_apply, Finsupp.add_apply, oweS_recv, bar_recv, bar_recv, bar_recv]
  rfl

/-- So a barrier is credited three at the launch, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib]
  rw [Finset.sum_ite_eq', Finset.sum_ite_eq', Finset.sum_ite_eq', if_pos (Finset.mem_univ _), if_pos (Finset.mem_univ _), if_pos (Finset.mem_univ _)]

/-- and a receive semaphore its copy's credit. -/
theorem launch_recv (c : Dev nD) (e : Fin 21) :
    tallyOn (recvCell c e) (launchCredit (Pipeline.owing O₀) 0 (recvCell c e)) = (tallyAt (recvCell c e) () (cr e) : CellTallies nD τ sig Unit) := by
  unfold tallyAt; refine congrArg _ (Finsupp.ext fun u => ?_); cases u
  rw [Pipeline.launchCredit_owing, Finsupp.single_eq_same, Finset.sum_congr rfl fun d _ => owed_recv d c e, Finset.sum_ite_eq']
  exact if_pos (Finset.mem_univ _)

/-- Device `c`'s credit at launch: three units on its barrier, each copy's on the cell it lands on. -/
theorem creds (c : Dev nD) :
    (Pipeline.launchCred O₀ c : sProp 𝕄) ⊢ iprop(cred (tallyAt (barCell c) () 3)
      ∗ bigSep Finset.univ fun e : Fin 21 => (cred (tallyAt (recvCell c e) () (cr e)) : sProp 𝕄)) := by
  unfold Pipeline.launchCred
  rw [bigSep_univ_at _ (SemLoc.reg barS), launch_bar]
  refine sep_mono_right ?_
  refine (bigSep_subset (t := Finset.univ.map ⟨fun e : Fin 21 => (SemLoc.dma (recvS e) : SemLoc sig),
    fun _ _ h => recvS_inj (SemLoc.dma.inj h)⟩) fun x hx => ?_).trans ?_
  · obtain ⟨e, -, rfl⟩ := Finset.mem_map.mp hx
    exact Finset.mem_erase.mpr ⟨fun h => reg_ne_dma _ _ h.symm, Finset.mem_univ _⟩
  · rw [bigSep_map]
    exact bigSep_mono fun e _ => Entails.of_eq (congrArg cred (launch_recv c e))

/-! ## What a device keeps until the kernel is entered -/

/-- Device `c`'s share at launch, under the names `K`. -/
def dealt (K : GSem nD τ sig → ℕ) (c : Dev nD) : sProp 𝕄 :=
  iprop(records kv K ∗ (reached ER (barCell (px 0 c)) 0 ∗ reached ER (barCell (px 1 c)) 0 ∗ reached ER (barCell (px 2 c)) 0)
    ∗ atPos ER (barCell c) 0 ∅ 0 ∗ pays (F := F) c
    ∗ (bigSep Finset.univ fun e : Fin 21 => (openTok ER (sendCell c e) : sProp 𝕄))
    ∗ bigSep Finset.univ fun e : Fin 21 => (openTok ER (recvCell c e) : sProp 𝕄))

/-- What the launch keeps for the kernel. -/
def Tk (c : Dev nD) : sProp 𝕄 :=
  iprop((∃ K, dealt kv K c) ∗ cred (tallyAt (barCell c) () 3)
    ∗ bigSep Finset.univ fun e : Fin 21 => (cred (tallyAt (recvCell c e) () (cr e)) : sProp 𝕄))

/-- The three partners conjoined one by one. -/
theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

/-- A send semaphore at zero, with leave to open it, is at the start of its round; -/
theorem open_send (K : GSem nD τ sig → ℕ) (c : Dev nD) (e : Fin 21) :
    iprop(records kv K ∗ (openTok ER (sendCell c e) ∗ semVal (sendCell c e) 0))
      ⊢ (iprop(|={Set.univ}=> (atPos ER (sendCell c e) 0 ∅ 0 ∗ reached ER (sendCell c e) 0)) : sProp 𝕄) := by
  iintro ⟨#Hrec, Ho, Hv⟩
  iapply (cell_open ER (Rd kv) (κ := K (sendCell c e)) (Es := Set.univ) (g := sendCell c e) (Set.mem_univ _))
  isplitr; · iapply (records_send kv K c e); iexact Hrec
  isplitl [Ho]; · iexact Ho
  iexact Hv

/-- so is a receive semaphore. -/
theorem open_recv (K : GSem nD τ sig → ℕ) (c : Dev nD) (e : Fin 21) :
    iprop(records kv K ∗ (openTok ER (recvCell c e) ∗ semVal (recvCell c e) 0))
      ⊢ (iprop(|={Set.univ}=> (atPos ER (recvCell c e) 0 ∅ 0 ∗ reached ER (recvCell c e) 0)) : sProp 𝕄) := by
  iintro ⟨#Hrec, Ho, Hv⟩
  iapply (cell_open ER (Rd kv) (κ := K (recvCell c e)) (Es := Set.univ) (g := recvCell c e) (Set.mem_univ _))
  isplitr; · iapply (records_recv kv K c e); iexact Hrec
  isplitl [Ho]; · iexact Ho
  iexact Hv

/-- The positions and marks of opened cells, as the body takes them. -/
theorem entry_sorted (c : Dev nD) :
    iprop((bigSep Finset.univ fun e : Fin 21 => iprop(atPos ER (sendCell c e) 0 ∅ 0 ∗ reached ER (sendCell c e) 0))
        ∗ (bigSep Finset.univ fun e : Fin 21 => iprop(atPos ER (recvCell c e) 0 ∅ 0 ∗ reached ER (recvCell c e) 0))
        ∗ (bigSep Finset.univ fun e : Fin 21 => iprop(dutyTok ER (sendCell c e) 0 0 ∗ dutyTok ER (recvCell (px (via e) c) e) 0 0))
        ∗ bigSep Finset.univ fun e : Fin 21 => (cred (tallyAt (recvCell c e) () (cr e)) : sProp 𝕄))
      ⊢ (iprop(bigSep Finset.univ (sendStart (F := F) c) ∗ bigSep Finset.univ (recvGoods (F := F) c)
        ∗ (bigSep Finset.univ fun e : Fin 21 => (reached ER (recvCell c e) 0 : sProp 𝕄))
        ∗ bigSep Finset.univ fun e : Fin 21 => (atPos ER (sendCell c e) 0 ∅ 0 : sProp 𝕄)) : sProp 𝕄) := by
  rw [← bigSep_sep', ← bigSep_sep', ← bigSep_sep', ← bigSep_sep', ← bigSep_sep', ← bigSep_sep']
  refine bigSep_mono fun e _ => ?_
  show iprop((atPos ER (sendCell c e) 0 ∅ 0 ∗ reached ER (sendCell c e) 0) ∗ (atPos ER (recvCell c e) 0 ∅ 0 ∗ reached ER (recvCell c e) 0)
      ∗ (dutyTok ER (sendCell c e) 0 0 ∗ dutyTok ER (recvCell (px (via e) c) e) 0 0) ∗ cred (tallyAt (recvCell c e) () (cr e)))
    ⊢ iprop(sendStart c e ∗ recvGoods c e ∗ reached ER (recvCell c e) 0 ∗ atPos ER (sendCell c e) 0 ∅ 0)
  unfold sendStart recvGoods
  iintro ⟨⟨H1, H2⟩, ⟨H3, H4⟩, ⟨H5, H6⟩, H7⟩
  isplitl [H5 H2 H6]
  · isplitl [H5]; · iexact H5
    isplitl [H2]; · iexact H2
    iexact H6
  isplitl [H7 H3]
  · isplitl [H7]; · iexact H7
    iexact H3
  isplitl [H4]; · iexact H4
  iexact H1

/-- AT THE KERNEL'S ENTRY a device opens its own cells. -/
theorem hopen (c : Dev nD) : iprop(Tk kv c ∗ Pipeline.ownSems0 osem c ∗ levAts L lv) ⊢ (|={Set.univ}=> ∃ K, entry kv K c : sProp 𝕄) := by
  rw [ownSems_eq]
  unfold Tk
  iintro ⟨⟨⟨%K, Hd⟩, HcB, HcR⟩, ⟨HvS, HvR⟩, #HLv⟩
  unfold dealt pays
  rw [bigSep_three]
  icases Hd with ⟨#Hrec, ⟨Hr0, Hr1, Hr2⟩, HatB, ⟨⟨Ht0, Ht1, Ht2⟩, Htk⟩, HoS, HoR⟩
  ihave HS := (Entails.of_eq (bigSep_sep' (s := Finset.univ) (Φ := fun e : Fin 21 => (openTok ER (sendCell c e) : sProp 𝕄))
    (Ψ := fun e : Fin 21 => (semVal (sendCell c e) 0 : sProp 𝕄))).symm) $$ [HoS HvS]
  · isplitl [HoS]; · iexact HoS
    iexact HvS
  ihave HR := (Entails.of_eq (bigSep_sep' (s := Finset.univ) (Φ := fun e : Fin 21 => (openTok ER (recvCell c e) : sProp 𝕄))
    (Ψ := fun e : Fin 21 => (semVal (recvCell c e) 0 : sProp 𝕄))).symm) $$ [HoR HvR]
  · isplitl [HoR]; · iexact HoR
    iexact HvR
  ihave HS' := (bigSep_with_persistent (R := records kv K)
    (Ψ := fun e : Fin 21 => iprop(|={Set.univ}=> (atPos ER (sendCell c e) 0 ∅ 0 ∗ reached ER (sendCell c e) 0)))
    (fun e _ => open_send kv K c e)) $$ [HS]
  · isplitr; · iexact Hrec
    iexact HS
  imod (bigSep_fupd _ _) $$ HS' with HS
  ihave HR' := (bigSep_with_persistent (R := records kv K)
    (Ψ := fun e : Fin 21 => iprop(|={Set.univ}=> (atPos ER (recvCell c e) 0 ∅ 0 ∗ reached ER (recvCell c e) 0)))
    (fun e _ => open_recv kv K c e)) $$ [HR]
  · isplitr; · iexact Hrec
    iexact HR
  imod (bigSep_fupd _ _) $$ HR' with HR
  imodintro
  iexists K
  ihave Hall := (entry_sorted c) $$ [HS HR Htk HcR]
  · isplitl [HS]; · iexact HS
    isplitl [HR]; · iexact HR
    isplitl [Htk]; · iexact Htk
    iexact HcR
  unfold entry Ctx signalGoods
  isplitr
  · isplitl []; · iexact Hrec
    iexact HLv
  isplitl [Ht0 Ht1 Ht2 Hr0 Hr1 Hr2]
  · isplitl [Ht0 Hr0]
    · isplitl [Ht0]; · iexact Ht0
      iexact Hr0
    isplitl [Ht1 Hr1]
    · isplitl [Ht1]; · iexact Ht1
      iexact Hr1
    isplitl [Ht2]; · iexact Ht2
    iexact Hr2
  isplitl [HcB]; · iexact HcB
  isplitl [HatB]; · iexact HatB
  iexact Hall

/-! ## Allocating -/

/-- Every device's records, from every cell's. -/
theorem records_of (K : GSem nD τ sig → ℕ) :
    (bigSep (barCells ∪ scCells) fun g => (cellInv ER (Rd kv) (K g) g : sProp 𝕄)) ⊢ records kv K := by
  unfold records
  iintro #H
  isplitr
  · iapply (bigSep_intro_persistent (R := bigSep (barCells ∪ scCells) fun g => (cellInv ER (Rd kv) (K g) g : sProp 𝕄)) fun c _ =>
      bigSep_elim (Finset.mem_union_left _ (Finset.mem_map_of_mem barEmb (Finset.mem_univ c))))
    iexact H
  isplitr
  · iapply (bigSep_intro_persistent (R := bigSep (barCells ∪ scCells) fun g => (cellInv ER (Rd kv) (K g) g : sProp 𝕄)) fun x _ =>
      bigSep_elim (Finset.mem_union_right _ (Finset.mem_map_of_mem scEmb (Finset.mem_univ (x.1, (0 : Fin 2), x.2)))))
    iexact H
  iapply (bigSep_intro_persistent (R := bigSep (barCells ∪ scCells) fun g => (cellInv ER (Rd kv) (K g) g : sProp 𝕄)) fun x _ =>
    bigSep_elim (Finset.mem_union_right _ (Finset.mem_map_of_mem scEmb (Finset.mem_univ (x.1, (1 : Fin 2), x.2)))))
  iexact H

/-- Every barrier is in its first round. -/
theorem reached_bar (c : Dev nD) : (bigSep barCells fun g => (reached ER g 0 : sProp 𝕄)) ⊢ reached ER (barCell c) 0 :=
  bigSep_elim (Finset.mem_map_of_mem barEmb (Finset.mem_univ c))

/-- What is dealt to one device alone. -/
def alone (c : Dev nD) : sProp 𝕄 :=
  iprop(atPos ER (barCell c) 0 ∅ 0 ∗ pays (F := F) c
    ∗ ((bigSep Finset.univ fun e : Fin 21 => (openTok ER (sendCell c e) : sProp 𝕄))
      ∗ bigSep Finset.univ fun e : Fin 21 => (openTok ER (recvCell c e) : sProp 𝕄)))

/-- What all have and what one device has alone make up what that device is dealt. -/
theorem dealt_intro (K : GSem nD τ sig → ℕ) (c : Dev nD) :
    iprop((records kv K ∗ bigSep barCells fun g => (reached ER g 0 : sProp 𝕄)) ∗ alone (F := F) c) ⊢ dealt kv K c := by
  unfold alone dealt
  iintro ⟨⟨#Hrec, #Hr⟩, HatB, Hp, HoS, HoR⟩
  isplitr; · iexact Hrec
  isplitr
  · isplitl []; · iapply (reached_bar (F := F) (px 0 c)); iexact Hr
    isplitl []; · iapply (reached_bar (F := F) (px 1 c)); iexact Hr
    iapply (reached_bar (F := F) (px 2 c)); iexact Hr
  isplitl [HatB]; · iexact HatB
  isplitl [Hp]; · iexact Hp
  isplitl [HoS]; · iexact HoS
  iexact HoR

/-- THE DEAL: the barrier counters and the launch element are every device's share. -/
theorem deal :
    iprop((bigSep Finset.univ fun c : Dev nD => (semVal (barCell c) 0 : sProp 𝕄)) ∗ BI.own (ER (launchOf barCells scCells toks)))
      ⊢ (|={Set.univ}=> bigSep Finset.univ fun c => iprop(∃ K, dealt kv K c) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄)) ⊢ bigSep Finset.univ fun c : Dev nD =>
      iprop((bigSep Finset.univ fun e : Fin 21 => (openTok ER (sendCell c e) : sProp 𝕄))
        ∗ bigSep Finset.univ fun e : Fin 21 => (openTok ER (recvCell c e) : sProp 𝕄)) :=
    Entails.of_eq ((bigSep_map (s := Finset.univ) scEmb (Φ := fun g : GSem nD τ sig => (openTok ER g : sProp 𝕄))).trans (over_sc _))
  have hK (K : GSem nD τ sig → ℕ) (c : Dev nD) (_ : c ∈ Finset.univ) :
      iprop((records kv K ∗ bigSep barCells fun g => (reached ER g 0 : sProp 𝕄)) ∗ alone (F := F) c) ⊢ iprop(∃ K, dealt kv K c) := by
    iintro H
    iexists K
    iapply (dealt_intro kv K c)
    iexact H
  have hsort : iprop((bigSep Finset.univ fun c : Dev nD => (atPos ER (barCell c) 0 ∅ 0 : sProp 𝕄)) ∗ bigSep Finset.univ (pays (F := F))
      ∗ bigSep Finset.univ fun c : Dev nD => iprop((bigSep Finset.univ fun e : Fin 21 => (openTok ER (sendCell c e) : sProp 𝕄))
        ∗ bigSep Finset.univ fun e : Fin 21 => (openTok ER (recvCell c e) : sProp 𝕄))) ⊢ (bigSep Finset.univ (alone (F := F)) : sProp 𝕄) := by
    rw [← bigSep_sep', ← bigSep_sep']
    exact bigSep_mono fun c _ => BI.Entails.refl _
  iintro ⟨Hv, Hu⟩
  imod (Rounds.fund_launch ER (Rd kv) disjoint_cells (fun _ _ h => h) toks) $$ [Hv Hu] with ⟨%K, -, #Hinv, #Hr, Hat, Hopen, Htok⟩
  · isplitl [Hv]; · iapply hv $$ Hv
    iexact Hu
  imodintro
  iapply (bigSep_with_persistent (R := iprop(records kv K ∗ bigSep barCells fun g => (reached ER g 0 : sProp 𝕄))) (hK K))
  isplitr
  · isplitl []; · iapply (records_of kv K); iexact Hinv
    iexact Hr
  iapply hsort
  isplitl [Hat]; · iapply hat $$ Hat
  isplitl [Htok]; · iapply (Entails.of_eq (toks_dealt (F := F))) $$ Htok
  iapply hop $$ Hopen

end Cert.KernelIdeal.Run

end

end
-- ==== Proof.KernelIdealRun.lean ====
module

public import proofs.«01_k».proof.Proof.KernelIdealDeal
public import proofs.«01_k».proof.Proof.Gen.KernelIdeal.Frame
public import Idealize.ShloMosaic.Lib.Pipeline.ValueKit

@[expose] public section

noncomputable section

/-! # The run

The program from its launch to its end, at every device: the host lines before the kernel, the kernel as a region that talks
across devices, the host lines after. Every device's arguments are unchanged, its result is a function of all the devices'
arguments, and every semaphore is at zero. -/

namespace Cert.KernelIdeal.Run

open Cert.KernelIdeal Cert.KernelIdeal.Gen Cert.Exchange

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The values -/

/-- Device `c`'s queries as the kernel finds them, -/
def qOf (c : Dev nD) : Vec F S16x256x64 .bf16 := V m c main_v2
/-- its keys and values, stacked, -/
def kvOf (c : Dev nD) : Vec F S16x2x256x64 .bf16 := V m c main_v9
/-- and what the kernel leaves as its result. -/
def outOf (c : Dev nD) : Vec F S16x256x64 .f32 := outVal (qOf m c) (G (kvOf m) c)

/-- The buffers after the kernel: only the result's has changed. -/
def W₁ (c : Dev nD) : Valuation τ sig (Elt F) :=
  Function.update (V0 m c) (Proc.devRef .tc main_v10) (outOf m c)
/-- The buffers at the end. -/
def W₂ (c : Dev nD) : Valuation τ sig (Elt F) := StableHlo.after hostOps1 (W₁ m c)

/-- Every other buffer is as before the kernel, -/
theorem W₁_of_ne (c : Dev nD) (b : Ref sig .tc) (h : b ≠ main_v10) : W₁ m c (Proc.devRef .tc b) = V m c b :=
  Function.update_of_ne (StableHlo.devRef_ne_of_ne h) ..
/-- and the result's is what the kernel leaves. -/
theorem W₁_out (c : Dev nD) : W₁ m c (Proc.devRef .tc main_v10) = outOf m c := Function.update_self ..

/-! ## The windows: each one's block is its array -/

/-- The queries' block is all of their array, -/
theorem blk_emb0 (t : Fin cfg0.N) (y : S16x256x64.Idx) : ((cfg0.win 0).blk t).view.emb y = y := by
  show ((cfg0.win 0).rect t).emb y = y
  funext a; apply Fin.ext
  exact Pipeline.Window.rect_emb_val_of_index_zero (cfg0.win 0) t a rfl y
/-- and so is that of the keys and values. -/
theorem blk_emb1 (t : Fin cfg0.N) (y : S16x2x256x64.Idx) : ((cfg0.win 1).blk t).view.emb y = y := by
  show ((cfg0.win 1).rect t).emb y = y
  funext a; apply Fin.ext
  exact Pipeline.Window.rect_emb_val_of_index_zero (cfg0.win 1) t a rfl y

/-- So the kernel sees the queries as they are, -/
theorem iblk0 (c : Dev nD) (t : Fin cfg0.N) : iblk m c 0 t = qOf m c :=
  funext fun y => congrArg (qOf m c) (blk_emb0 t y)
/-- and the keys and values. -/
theorem iblk1 (c : Dev nD) (t : Fin cfg0.N) : iblk m c 1 t = kvOf m c :=
  funext fun y => congrArg (kvOf m c) (blk_emb1 t y)

/-! ## The kernel's proof data -/

/-- What a device enters the kernel with, -/
def Xk (c : Dev nD) : sProp 𝕄 := iprop(∃ K, entry (kvOf m) K c)
/-- and its barrier's counter, back at zero. -/
def Yk (c : Dev nD) : sProp 𝕄 := semVal (barCell c) 0
/-- The scratch buffer at some contents. -/
def anyScratch (c : Dev nD) : sProp 𝕄 := iprop(∃ f : Buf (Elt F) (scLoc c), (scLoc c ↦{fullShare} f))

/-- Before the body, -/
def Φ₀ (c : Dev nD) : sProp 𝕄 := iprop(Xk m c ∗ anyScratch c ∗ ∃ r, prngReg c r)
/-- and after it. -/
def Φ₁ (c : Dev nD) : sProp 𝕄 := iprop((Yk c ∗ Pipeline.ownSems0 osem c) ∗ anyScratch c ∗ ∃ r, prngReg c r)

/-- The proof data: the windows' arrays, what the body leaves, and what the device owes before and after. -/
def dat (c : Dev nD) : Dat τ (Elt F) Unit ℕ UU ℕ cfg0 c where
  A w := V m c (Pipeline.arrRef spec0 w)
  after := fun | 0 => fun t => iblk m c 0 t | 1 => fun t => iblk m c 1 t | 2 => fun _ => outOf m c
               | ⟨_ + 3, h⟩ => absurd h (Nat.not_lt.2 (Nat.le_add_left _ _))
  Φ t := if t.val = 0 then Φ₀ m c else Φ₁ c
  q _ := fullShare
  owed t := if t.val = 0 then O₀ c else 0

/-- The one region is admitted. -/
abbrev adm : (p : Fin 1) → (pcfgs (F := F) p).Adm := fun p => (cfgs p).toPCfg_adm
/-- Its data, on every device. -/
def pdats : (p : Fin 1) → (c : Dev nD) → Dat τ (Elt F) Unit ℕ UU ℕ (Pipeline.pin (pcfgs (F := F)) adm p) c :=
  fun _ c => dat m c

/-- Before the body runs the first stage holds the queries -/
theorem before0 (c : Dev nD) (t : Fin cfg0.N) (d) : (dat m c).before 0 t d = qOf m c := by
  refine (((dat m c).before_in_eq_fetched 0 rfl (fun _ => rfl) (fun _ _ _ => rfl) (fun t => ?_) t d).trans ?_).trans (iblk0 m c t)
  · rfl
  · rfl
/-- and the second the keys and values. -/
theorem before1 (c : Dev nD) (t : Fin cfg0.N) (d) : (dat m c).before 1 t d = kvOf m c := by
  refine (((dat m c).before_in_eq_fetched 1 rfl (fun _ => rfl) (fun _ _ _ => rfl) (fun t => ?_) t d).trans ?_).trans (iblk1 m c t)
  · rfl
  · rfl

/-- What the kernel has beside its windows when it starts, -/
theorem Φ_first (c : Dev nD) (t : Fin cfg0.N) : (dat m c).Φ t.castSucc = iprop(Xk m c ∗ anyScratch c ∗ ∃ r, prngReg c r) := by
  obtain rfl := fin_N0 t
  show (if ((t0_0.castSucc : Fin (cfg0.N + 1)).val = 0) then Φ₀ m c else Φ₁ c) = Φ₀ m c; exact if_pos rfl
/-- and when it has ended. -/
theorem Φ_last (c : Dev nD) (t : Fin cfg0.N) : (dat m c).Φ t.succ
    = iprop((Yk c ∗ Pipeline.ownSems0 osem c) ∗ anyScratch c ∗ ∃ r, prngReg c r) := by
  show (if t.succ.val = 0 then Φ₀ m c else Φ₁ c) = Φ₁ c
  exact if_neg (Nat.succ_ne_zero t.val)

/-- At the start the kernel owes its signals and its copies, -/
theorem owed_zero (c : Dev nD) : (pdats (F := F) m 0 c).owed 0 = O₀ c := by
  show (if ((0 : Fin (cfg0.N + 1)).val = 0) then O₀ c else 0) = O₀ c; exact if_pos rfl
/-- as it does before its one step; -/
theorem owed_first (c : Dev nD) (t : Fin cfg0.N) : (dat (F := F) m c).owed t.castSucc = O₀ c := by
  obtain rfl := fin_N0 t
  show (if ((t0_0.castSucc : Fin (cfg0.N + 1)).val = 0) then O₀ c else 0) = O₀ c; exact if_pos rfl
/-- after that step it owes nothing, -/
theorem owed_next (c : Dev nD) (t : Fin cfg0.N) : (dat (F := F) m c).owed t.succ = 0 := by
  show (if t.succ.val = 0 then O₀ c else 0) = 0
  exact if_neg (Nat.succ_ne_zero t.val)
/-- nor at the end. -/
theorem owed_last (c : Dev nD) : (pdats (F := F) m 0 c).owed (Fin.last _) = 0 := owed_next m c t0_0

/-- What a point of the region is owing, given as the body wants it, -/
theorem owesAt_in (c : Dev nD) (t : Fin (cfg0.N + 1)) (O : CellTallies nD τ sig Unit) (h : (dat (F := F) m c).owed t = O) (W : Waits sig Unit) :
    (owes (c : Thread nD τ) O W : sProp 𝕄) ⊢ ((dat m c).owesAt () t : sProp 𝕄) := by
  unfold Dat.owesAt Pipeline.owesWithin Dat.bound; rw [h]
  iintro HO; iexists W; isplitr
  · ipureintro; exact fun _ _ => Or.inl trivial
  iexact HO
/-- and taken back as the region wants it. -/
theorem owesAt_out (c : Dev nD) (t : Fin (cfg0.N + 1)) (O : CellTallies nD τ sig Unit) (h : (dat (F := F) m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

set_option maxRecDepth 16384 in
/-- THE BODY OBLIGATION. -/
theorem body (c : Dev nD) : BodyObligation (dat m c) defs₀ 𝒱₀ () Set.univ := fun t => by
  rw [bigSep_W0, bigSep_W0, Φ_first, Φ_last]
  show iprop((Xk m c ∗ anyScratch c ∗ ∃ r, prngReg c r) ∗ (dat m c).owesAt () t.castSucc
      ∗ (∃ d, owns c (st0_0 t) fullShare ((dat m c).before 0 t d)) ∗ (∃ d, owns c (st0_1 t) fullShare ((dat m c).before 1 t d))
      ∗ ∃ d, owns c (st0_2 t) fullShare ((dat m c).before 2 t d))
    ⊢ wp frame (wpE defs₀ 𝒱₀ c none) Set.univ (bodyAt0 t) fun _ =>
      iprop(((Yk c ∗ Pipeline.ownSems0 osem c) ∗ anyScratch c ∗ ∃ r, prngReg c r) ∗ (dat m c).owesAt () t.succ
        ∗ owns c (st0_0 t) fullShare (iblk m c 0 t) ∗ owns c (st0_1 t) fullShare (iblk m c 1 t) ∗ owns c (st0_2 t) fullShare (outOf m c))
  rw [iblk0, iblk1, ownSems_eq]
  simp only [before0, before1]
  unfold Xk Yk anyScratch owns
  iintro ⟨⟨⟨%K, He⟩, ⟨%f3, Hs⟩, Hp⟩, HO, ⟨%d0, %f0, %h0, H0⟩, ⟨%d1, %f1, %h1, H1⟩, ⟨%d2, %f2, -, H2⟩⟩
  ihave HO' := (owesAt_out m c _ (O₀ c) (owed_first m c t)) $$ HO
  icases HO' with ⟨%W, HO⟩
  iapply (body_run (kvOf m) K c (st0_0 t) (hstage0_0 0) (st0_1 t) (hstage0_1 0) (st0_2 t) (hstage0_2 0) f0 f1 (qOf m c) h0 h1 f3 W)
    $$ [He HO H0 H1 H2 Hs]
  · isplitl [He]; · iexact He
    isplitl [HO]; · iexact HO
    isplitl [H0]; · iexact H0
    isplitl [H1]; · iexact H1
    isplitl [H2]; · iexists f2; iexact H2
    iexact Hs
  iintro ⟨⟨%W', HO⟩, Hc, H0, H1, ⟨%f2', %h2, H2⟩, Hs⟩
  unfold counters
  icases Hc with ⟨Hb, HvS, HvR⟩
  isplitl [Hb HvS HvR Hs Hp]
  · isplitl [Hb HvS HvR]
    · isplitl [Hb]; · iexact Hb
      isplitl [HvS]; · iexact HvS
      iexact HvR
    isplitl [Hs]; · iexists _; iexact Hs
    iexact Hp
  isplitl [HO]; · iapply (owesAt_in m c t.succ 0 (owed_next m c t) W'); iexact HO
  isplitl [H0]
  · iexists f0; isplitr; · ipureintro; exact h0
    iexact H0
  isplitl [H1]
  · iexists f1; isplitr; · ipureintro; exact h1
    iexact H1
  iexists f2'; isplitr; · ipureintro; exact h2
  iexact H2

/-! ## The region -/

/-- The kernel's one scratch buffer, at any contents, is all that it has of its own. -/
theorem scopedRest_eq (c : Dev nD) :
    (Pipeline.scopedRest (Pipeline.pin (pcfgs (F := F)) adm 0).spec c : sProp 𝕄) = anyScratch c := scopedRest0_eq c

/-- Holding no buffers is holding nothing. -/
theorem held_none (c : Dev nD) (W : Valuation τ sig (Elt F)) : (StableHlo.held (c.tc : Thread nD τ) ∅ W : sProp 𝕄) = BI.emp := BI.bigSep_empty

/-- The facts about the region that its launch asks for. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Everything that is owed at the start has a level above zero, -/
theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply, Pi.add_apply, Finsupp.add_apply] at h
  have hbar (d : Dev nD) (h : 0 < (tallyAt (barCell d) () 1 : CellTallies nD τ sig Unit) g u) : u ∈ L g ∧ 0 < lv g u := by
    rw [tallyAt_apply] at h
    split at h
    · next hg => rw [hg.1]; exact ⟨by rw [L_tc]; exact Finset.mem_singleton_self _, Nat.one_pos⟩
    · exact absurd h (Nat.lt_irrefl 0)
  rcases Nat.add_pos_iff_pos_or_pos.mp h with h | h
  · rcases Nat.add_pos_iff_pos_or_pos.mp h with h | h
    · rcases Nat.add_pos_iff_pos_or_pos.mp h with h | h
      · obtain ⟨e, -, rfl⟩ := oweS_pos h
        exact ⟨by rw [L_tc]; exact Finset.mem_singleton_self _, by rw [lv_recv]; omega⟩
      · exact hbar _ h
    · exact hbar _ h
  · exact hbar _ h

/-- and so has everything that is owed at any point of the region. -/
theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = if t.val = 0 then O₀ c else 0 from rfl] at h
  split at h
  · exact O₀_pos h
  · exact absurd h (Nat.lt_irrefl 0)

/-- Every array is held whole. -/
theorem share_full (c : Dev nD) (w : Fin cfg0.W) : (pdats (F := F) m 0 c).share w = fullShare := by
  unfold Dat.share
  split <;> rfl

/-- The staging semaphores are at the lowest level. -/
theorem stage_low (c : Dev nD) (w : Fin cfg0.W) (s : Fin (cfg0.win w).nbuf) :
    lv ((c : Thread nD τ), .dma ((cfg0.win w).sem s)) () = 0 :=
  if_neg ((by decide : ∀ (w : Fin cfg0.W) (s : Fin (cfg0.win w).nbuf), ¬ 24 ≤ ((cfg0.win w).sem s).val) w s)

/-- The buffers the kernel's windows do not name. -/
abbrev restB : Finset (DevRef τ sig) := Pipeline.ucRefs τ sig \ Pipeline.arrRefs (τ := τ) spec0

/-- The windows' arrays are buffers that outlive the kernel. -/
theorem arr_sub : Pipeline.arrRefs (τ := τ) spec0 ⊆ Pipeline.ucRefs τ sig := Pipeline.arrRefs_sub_ucRefs spec0 winFacts0.arr_unscoped

/-- The buffers that no window names are as they were. -/
theorem rest_kept (c : Dev nD) (b : DevRef τ sig) (hb : b ∈ restB \ (∅ : Finset (DevRef τ sig))) : W₁ m c b = V0 m c b := by
  refine Function.update_of_ne (fun h => ?_) ..
  refine (Finset.mem_sdiff.mp (Finset.mem_sdiff.mp hb).1).2 ?_
  rw [h]
  exact Finset.mem_map_of_mem _ (Finset.mem_image_of_mem (Pipeline.arrRef spec0) (Finset.mem_univ (2 : Fin 3)))

/-- The result's array ends as the kernel leaves it, -/
theorem out_arr (c : Dev nD) : (dat m c).arrAt 2 cfg0.N = outOf m c :=
  (dat m c).arrAt_eq_of_after_last 2 t0_0 (by decide +kernel) (outOf m c) fun _ => rfl

/-- so at the end the three arrays are as `W₁` says. -/
theorem arr_end (c : Dev nD) (w : Fin 3) : (dat m c).arrAt w cfg0.N = W₁ m c (Proc.devRef .tc (Pipeline.arrRef spec0 w)) := by
  match w with
  | 0 => exact ((dat m c).arrAt_in 0 rfl _).trans (W₁_of_ne m c main_v2 (by decide)).symm
  | 1 => exact ((dat m c).arrAt_in 1 rfl _).trans (W₁_of_ne m c main_v9 (by decide)).symm
  | 2 => exact (out_arr m c).trans (W₁_out m c).symm

/-- What the region is given makes up what the kernel starts from, -/
theorem hin (c : Dev nD) : iprop(Pipeline.scopedRest (Pipeline.pin (pcfgs (F := F)) adm 0).spec c ∗ (∃ r, prngReg c r)
      ∗ StableHlo.held (c.tc : Thread nD τ) ∅ (V0 m c) ∗ Xk m c) ⊢ (pdats m 0 c).Φ 0 := by
  rw [show (pdats m 0 c).Φ 0 = iprop(Xk m c ∗ anyScratch c ∗ ∃ r, prngReg c r) from Φ_first m c t0_0, scopedRest_eq]
  iintro ⟨Hs, Hp, -, HX⟩
  isplitl [HX]; · iexact HX
  isplitl [Hs]; · iexact Hs
  iexact Hp

/-- and what the kernel ends with makes up what the region gives back. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W₁ m c) ∗ Pipeline.ownSems0 osem c ∗ Yk c) := by
  rw [show (pdats m 0 c).Φ (Fin.last _) = iprop((Yk c ∗ Pipeline.ownSems0 osem c) ∗ anyScratch c ∗ ∃ r, prngReg c r)
    from Φ_last m c t0_0, scopedRest_eq, held_none]
  iintro ⟨⟨HY, Ho⟩, Hs, Hp⟩
  isplitl [Hs]; · iexact Hs
  isplitl [Hp]; · iexact Hp
  isplitr; · iempintro
  isplitl [Ho]; · iexact Ho
  iexact HY

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- THE KERNEL as a region: it enters owing `O₀` and leaves owing nothing. -/
def region : ℝ𝕊 0 :=
  Pipeline.RegionSeg.ofTalk (pcfgs (F := F)) adm (pdats m) () defs₀ 𝒱₀ L lv 0 osem ownFacts
    ∅ restB (Finset.empty_subset _) kitP rfl (fun c => (body m c).loose)
    (fun _ => 0) O₀ (fun c => (owed_zero m c).trans (zero_add _).symm) (owed_last m) (fun _ => rfl)
    (share_full m)
    (V0 m) (W₁ m) (rest_kept m)
    (Tk (kvOf m)) Yk (Xk m) Yk (hopen (kvOf m)) (hin m) (hout m)
    (fun c => by iintro H; imodintro; iexact H)
    (fun _ => 0)
    ⟨fun c w s => by rw [L_tc]; exact Finset.mem_singleton_self _, fun c w s => le_of_eq (stage_low c w s), fun c t g i h => cutD m c t g i h⟩
    (fun _ => iprop(emp))
    (fun _ _ => rfl) (arr_end m)

/-! ## The segments -/

/-- What rides along with the host lines before the kernel. -/
def R₀ (c : Dev nD) : sProp 𝕄 := iprop((∃ r, prngReg c r) ∗ Tk (kvOf m) c ∗ ∃ W, owes (c : Thread nD τ) (O₀ c) W)
/-- What rides along with the host lines after it. -/
def R₁ (c : Dev nD) : sProp 𝕄 := iprop(Yk c ∗ ∃ W, owes (c : Thread nD τ) (0 : CellTallies nD τ sig Unit) W)

/-- The host lines before the kernel touch only buffers that outlive it, -/
theorem ops0_sub : ∀ op ∈ (hostOps0 : List (HloOp τ sig (Elt F))), op.bufs ⊆ Pipeline.ucRefs τ sig := fun op h =>
  Pipeline.sub_ucRefs op ((List.forall_iff_forall_mem.mp hostOps0_sub) op h)
/-- and so do those after it. -/
theorem ops1_sub : ∀ op ∈ (hostOps1 : List (HloOp τ sig (Elt F))), op.bufs ⊆ Pipeline.ucRefs τ sig := fun op h =>
  Pipeline.sub_ucRefs op ((List.forall_iff_forall_mem.mp hostOps1_sub) op h)

/-- The host lines before the kernel, -/
def seg0 : ℍ := Pipeline.HostSeg.ofOps _ _ _ _ _ (Pipeline.ucRefs τ sig) hostOps0 ops0_sub
  (List.forall_iff_forall_mem.mp hostOps0_fresh) (fun c b => m (c, b)) (R₀ m)
/-- and after it. -/
def seg1 : ℍ := Pipeline.HostSeg.ofOps _ _ _ _ _ (Pipeline.ucRefs τ sig) hostOps1 ops1_sub
  (List.forall_iff_forall_mem.mp hostOps1_fresh) (W₁ m) R₁

/-- The first segment ends where the kernel starts, -/
theorem region_pre (c : Dev nD) : (seg0 m).post c ⊢ (region m).pre c := by
  show iprop(StableHlo.held (c.tc : Thread nD τ) (Pipeline.ucRefs τ sig) (V0 m c) ∗ R₀ m c)
    ⊢ iprop(StableHlo.held (c.tc : Thread nD τ) (Pipeline.arrRefs (τ := τ) (pcfgs (F := F) 0).spec) (V0 m c) ∗ (∃ r, prngReg c r)
      ∗ (StableHlo.held (c.tc : Thread nD τ) restB (V0 m c) ∗ emp) ∗ Tk (kvOf m) c ∗ ∃ Wd, owes (c : Thread nD τ) (0 + O₀ c) Wd)
  rw [StableHlo.held_sub_split (c.tc : Thread nD τ) arr_sub (V0 m c), zero_add]
  unfold R₀
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

/-- and the kernel ends where the last segment starts. -/
theorem region_post (c : Dev nD) : (region m).post c ⊢ (seg1 m).pre c := by
  show iprop(StableHlo.held (c.tc : Thread nD τ) (Pipeline.arrRefs (τ := τ) (pcfgs (F := F) 0).spec) (W₁ m c) ∗ (∃ r, prngReg c r)
      ∗ (StableHlo.held (c.tc : Thread nD τ) restB (W₁ m c) ∗ emp) ∗ Yk c ∗ ∃ Wd, owes (c : Thread nD τ) (0 : CellTallies nD τ sig Unit) Wd)
    ⊢ iprop(StableHlo.held (c.tc : Thread nD τ) (Pipeline.ucRefs τ sig) (W₁ m c) ∗ R₁ c)
  rw [StableHlo.held_sub_split (c.tc : Thread nD τ) arr_sub (W₁ m c)]
  unfold R₁
  iintro ⟨Ha, -, ⟨Hr, -⟩, HY, HO⟩
  isplitl [Ha Hr]
  · isplitl [Ha]; · iexact Ha
    iexact Hr
  isplitl [HY]; · iexact HY
  iexact HO

/-- The program is the three segments in order. -/
def segs : List (Pipeline.Seg (pcfgs (F := F)) adm (pdats m) () defs₀ 𝒱₀ L lv) := [.host (seg0 m), .region (region m), .host (seg1 m)]

/-- The program on a device is the run of its segments. -/
theorem main_eq (c : Dev nD) : main (F := F) c = Pipeline.Seg.run (segs m) :=
  main_segs adm (pdats m) () 𝒱₀ L lv (seg0 m) (seg1 m) (region m) rfl rfl c

/-! ## The launch -/

/-- The launch element: the staging cells' and the exchange's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The exchange's launch element, kept on device 0 until every device's share is dealt. -/
def kept (c : Dev nD) : sProp 𝕄 := if c = 0 then BI.own (ER (launchOf barCells scCells toks)) else iprop(emp)

/-- The tokens that the launch sets up, as one ghost element. -/
theorem bigSep_kept : bigSep Finset.univ (kept (F := F)) = (BI.own (ER (launchOf barCells scCells toks)) : sProp 𝕄) := by
  rw [bigSep_univ_at _ (0 : Dev nD), bigSep_congr (s := Finset.univ.erase 0) (Ψ := fun _ => (BI.emp : sProp 𝕄))
    fun c hc => by unfold kept; rw [if_neg (Finset.ne_of_mem_erase hc)]; rfl, BI.bigSep_emp_const]
  unfold kept; rw [if_pos rfl]
  exact BI.equiv_iff.mp sep_emp

/-- The one semaphore that outlives the kernel is the barrier. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- A thread that is no device's own has no level. -/
theorem L_of_ne : ∀ g : GSem nD τ sig, g.1.2 ≠ .tc → L g = ∅ := fun _ h => if_neg h

/-- What a device's launch holdings are, but for the exchange's. -/
def bundle (c : Dev nD) : sProp 𝕄 :=
  iprop(StableHlo.held (c.tc : Thread nD τ) (Pipeline.ucRefs τ sig) (fun b => m (c, b)) ∗ (∃ r, prngReg c r)
    ∗ (cred (tallyAt (barCell c) () 3) ∗ bigSep Finset.univ fun e : Fin 21 => (cred (tallyAt (recvCell c e) () (cr e)) : sProp 𝕄))
    ∗ owes (c : Thread nD τ) (O₀ c) ∅)

/-- What a device has at the launch and what it is dealt make up what its first segment starts from. -/
theorem start_intro (c : Dev nD) : iprop(bundle m c ∗ ∃ K, dealt (kvOf m) K c) ⊢ (seg0 m).pre c := by
  show _ ⊢ iprop(StableHlo.held (c.tc : Thread nD τ) (Pipeline.ucRefs τ sig) (fun b => m (c, b)) ∗ R₀ m c)
  unfold bundle R₀ Tk
  iintro ⟨⟨Hh, Hp, ⟨HcB, HcR⟩, HO⟩, HK⟩
  isplitl [Hh]; · iexact Hh
  isplitl [Hp]; · iexact Hp
  isplitl [HK HcB HcR]
  · isplitl [HK]; · iexact HK
    isplitl [HcB]; · iexact HcB
    iexact HcR
  iexists ∅; iexact HO

/-- THE LAUNCH makes every device's first state. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept c)) ∗ levAts L lv)
      ⊢ (|={Set.univ}=> bigSep Finset.univ (seg0 m).pre : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ kept c)
      ⊢ (iprop(bundle m c ∗ (semVal (barCell c) 0 ∗ kept c)) : sProp 𝕄) := by
    rw [show unscopedBufs c (fun b => m ((c : Thread nD τ).loc b))
      = StableHlo.held (c : Thread nD τ) (Pipeline.ucRefs τ sig) (fun b => m (c, b)) from Pipeline.unscopedBufs_held c (fun b => m (c, b)), unscopedSems_eq]
    unfold bundle
    iintro ⟨Hh, Hus, HO, Hcr, Hp, HG⟩
    isplitl [Hh HO Hcr Hp]
    · isplitl [Hh]; · iexact Hh
      isplitl [Hp]; · iexists (ρ c); iexact Hp
      isplitl [Hcr]; · iapply (creds (F := F) c); iexact Hcr
      iexact HO
    isplitl [Hus]; · iexact Hus
    iexact HG
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ kept c))
      ⊢ (iprop(bigSep Finset.univ (bundle m) ∗ (bigSep Finset.univ fun c : Dev nD => (semVal (barCell c) 0 : sProp 𝕄))
        ∗ BI.own (ER (launchOf barCells scCells toks))) : sProp 𝕄) := by
    rw [← bigSep_kept, ← bigSep_sep', ← bigSep_sep']
    exact bigSep_mono fun c _ => hcore c
  have hjoin : iprop(bigSep Finset.univ (bundle m) ∗ bigSep Finset.univ fun c => iprop(∃ K, dealt (kvOf m) K c))
      ⊢ (bigSep Finset.univ (seg0 m).pre : sProp 𝕄) := by
    rw [← bigSep_sep']
    exact bigSep_mono fun c _ => start_intro m c
  iintro ⟨H, -⟩
  ihave H' := hall $$ H
  icases H' with ⟨HB, Hv, Hu⟩
  imod (deal (kvOf m)) $$ [Hv Hu] with HD
  · isplitl [Hv]; · iexact Hv
    iexact Hu
  imodintro
  iapply hjoin
  isplitl [HB]; · iexact HB
  iexact HD

/-! ## The run -/

/-- A device's last state: every buffer at its final contents, the barrier's counter at zero. -/
abbrev Tₙ (c : Dev nD) : sProp 𝕄 :=
  iprop(StableHlo.held (c : Thread nD τ) (Pipeline.ucRefs τ sig) (W₂ m c) ∗ semVal (barCell c) 0)

/-- At the end a device's buffers are as `W₂` says, and its barrier is at zero. -/
theorem finish (c : Dev nD) (s' : Phys nD τ sig (Elt F)) : iprop(Tₙ m c ∗ SI s')
    ⊢ (|={Set.univ}=> iprop(⌜(∀ b ∈ Pipeline.ucRefs τ sig, s'.mem.mem (c, b) = W₂ m c b) ∧ s'.mem.sem (barCell c) = 0⌝ ∗ SI s') : sProp 𝕄) := by
  iintro ⟨⟨Hh, Hb⟩, HSI⟩
  icombine HSI Hb gives %hb
  ihave H := (pointsTo_read_all (Pipeline.ucRefs τ sig) (fun b => ((c : Thread nD τ).1, b)) (W₂ m c) s') $$ [Hh HSI]
  · isplitl [Hh]; · unfold StableHlo.held; iexact Hh
    iexact HSI
  icases H with ⟨%h, HSI⟩
  imodintro
  isplitr
  · ipureintro; exact ⟨h, by simpa using hb⟩
  iexact HSI

/-- No other semaphore outlives the kernel. -/
theorem unscoped_eq : ∀ sm : SemLoc sig, sm.isScoped .tc = false → sm = .reg barS := by decide +kernel

set_option backward.isDefEq.respectTransparency.types false in
/-- THE RUN: from any memory with zero counters every weakly fair execution of the program on the eight devices terminates, and
    in every final state each device's buffers are at `W₂` and every semaphore is at zero. -/
theorem run_all : θ_run defs (onTc (τ := τ) (main (F := F))) ⟨m, fun _ => 0, ρ⟩
    (fun r => (∀ c : Dev nD, ∀ b ∈ Pipeline.ucRefs τ sig, r.2.mem (c, b) = W₂ m c b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := kept) (u₀ := u₀)
    (hu₀ := by
      unfold u₀
      iintro Hu
      ihave H := (ownU_pair _ _) $$ Hu
      icases H with ⟨HP, HX⟩
      imodintro
      isplitl [HP]; · iexact HP
      rw [bigSep_kept]; iexact HX)
    (T₀ := (seg0 m).pre) (Tₙ := Tₙ m)
    (hch := by
      refine ⟨fun c => .rfl, fun c => region_pre m c, fun c => region_post m c, fun c => ?_⟩
      show iprop(StableHlo.held (c : Thread nD τ) (Pipeline.ucRefs τ sig) (W₂ m c) ∗ R₁ c)
        ⊢ iprop(Tₙ m c ∗ ∃ W, owes (c : Thread nD τ) (0 : CellTallies nD τ sig Unit) W)
      unfold R₁ Yk
      iintro ⟨Hh, Hb, HO⟩
      isplitr [HO]
      · isplitl [Hh]; · iexact Hh
        iexact Hb
      iexact HO)
    (hinit := init m ρ)
    (QY := fun c s => (∀ b ∈ Pipeline.ucRefs τ sig, s.mem (c, b) = W₂ m c b) ∧ s.sem (barCell c) = 0)
    (hfin := finish m)
    (hQ := fun s h hs => ⟨fun c => (h c).1, sem_eq_zero hs fun c sm hsm => by
      obtain rfl := unscoped_eq sm hsm
      exact (h c).2⟩)

/-! ## What is read off it -/

/-- A buffer that is not the kernel's own outlives it. -/
theorem mem_uc (b : Ref sig .tc) (h : b.isScoped = false) : (Proc.devRef .tc b : DevRef τ sig) ∈ Pipeline.ucRefs τ sig :=
  Finset.mem_filter.mpr ⟨StableHlo.devRef_mem_tcRefs _, fun h' => Bool.false_ne_true (h.symm.trans h')⟩

/-- A buffer neither the host lines after the kernel nor the kernel writes ends as the kernel found it. -/
theorem W₂_of_ne (c : Dev nD) (b : Ref sig .tc) (h10 : b ≠ main_v10) (h11 : b ≠ main_v11) (h12 : b ≠ main_v12) :
    W₂ m c (Proc.devRef .tc b) = V m c b := by
  unfold W₂
  rw [StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h11, StableHlo.devRef_ne_of_ne h12⟩))]
  exact W₁_of_ne m c b h10

/-- The program's result on device `c`. -/
def resOf (c : Dev nD) : Vec F S2x256x8x64 .f32 := W₂ m c (Proc.devRef .tc main_v12)

/-- THE RUN, READ: the arguments are unchanged, the result is `resOf`, every semaphore is at zero. -/
theorem run_main : θ_run defs (onTc (τ := τ) (main (F := F))) ⟨m, fun _ => 0, ρ⟩ (fun r =>
    (∀ c : Dev nD, r.2.mem ((c.tc : Thread nD τ).loc main_v12) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨h.1 c _ (mem_uc main_v12 rfl),
    (h.1 c _ (mem_uc main_arg0 rfl)).trans ((W₂_of_ne m c main_arg0 (by decide) (by decide) (by decide)).trans (V_main_arg0 m c)),
    (h.1 c _ (mem_uc main_arg1 rfl)).trans ((W₂_of_ne m c main_arg1 (by decide) (by decide) (by decide)).trans (V_main_arg1 m c)),
    (h.1 c _ (mem_uc main_arg2 rfl)).trans ((W₂_of_ne m c main_arg2 (by decide) (by decide) (by decide)).trans (V_main_arg2 m c))⟩, h.2⟩)
    (run_all m ρ)

end Cert.KernelIdeal.Run

end

end
-- ==== Proof.ReferenceIdealRun.lean ====
/-
  The run of the reference: the attention of the whole arrays, with the greatest score subtracted before the exponential, on one
  device. Its operations are host operations only, so what its result buffer ends at is their composite (`attn`), read off in
  four steps: the scores, the exponentials of the scores less their row's greatest, those divided by their row's sum, and the
  product with the values.
-/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The scores: the products of queries and keys, times the scale. -/
def scores (q k : FVec F S2x2048x8x64 .bf16) : FVec F S2x8x2048x2048 .f32 :=
  mulf (Host.dotGeneral dot_S2x2048x8x64_S2x2048x8x64_S2x8x2048x2048_3_3_1_1_02_02 none (extf .f32 q bitsLt_bf16_f32) (extf .f32 k bitsLt_bf16_f32))
    (broadcastInDim S2x8x2048x2048 ![] bcast_S_S2x8x2048x2048 (constant S_ .f32 0x3E000000#32))

/-- A number per row, spread over the row. -/
def spread (r : FVec F S2x8x2048 .f32) : FVec F S2x8x2048x2048 .f32 :=
  broadcastInDim S2x8x2048x2048 ![0, 1, 2, 3] bcast_S2x8x2048x1_S2x8x2048x2048_0_1_2_3
    (broadcastInDim S2x8x2048x1 ![0, 1, 2] bcast_S2x8x2048_S2x8x2048x1_0_1_2 r)

/-- The exponentials of the scores, each less the greatest of its row. -/
def weights (s : FVec F S2x8x2048x2048 .f32) : FVec F S2x8x2048x2048 .f32 :=
  Host.exp (subf s (spread (Host.reduce FloatOps.maximumf s (constant S_ .f32 0xFF800000#32) reducesTo_S2x8x2048x2048_S2x8x2048_d3 h_S_)))

/-- Each weight divided by the sum of its row. -/
def probs (p : FVec F S2x8x2048x2048 .f32) : FVec F S2x8x2048x2048 .f32 :=
  Host.divf p (spread (Host.reduceAdd p (constant S_ .f32 0x00000000#32) reducesTo_S2x8x2048x2048_S2x8x2048_d3 h_S_))

/-- The attention of the whole arrays. -/
def attn (q k v : FVec F S2x2048x8x64 .bf16) : FVec F S2x2048x8x64 .f32 :=
  transpose S2x2048x8x64 [0, 3, 1, 2]
    (Host.dotGeneral dot_S2x2048x8x64_S2x8x2048x2048_S2x8x64x2048_1_3_3_2_02_01 none (extf .f32 v bitsLt_bf16_f32) (probs (weights (scores q k))))
    transposes_S2x8x64x2048_S2x2048x8x64_0_3_1_2

/-- @main's operations, in order. -/
abbrev ops : List (HloOp τ sig (Elt F)) :=
  [ unary main_arg0 main_v0 ((extf .f32 · bitsLt_bf16_f32) : (⟨S2x2048x8x64, .bf16⟩ : BufTy).Contents (Elt F) → (⟨S2x2048x8x64, .f32⟩ : BufTy).Contents (Elt F)),
    unary main_arg1 main_v1 ((extf .f32 · bitsLt_bf16_f32) : (⟨S2x2048x8x64, .bf16⟩ : BufTy).Contents (Elt F) → (⟨S2x2048x8x64, .f32⟩ : BufTy).Contents (Elt F)),
    unary main_arg2 main_v2 ((extf .f32 · bitsLt_bf16_f32) : (⟨S2x2048x8x64, .bf16⟩ : BufTy).Contents (Elt F) → (⟨S2x2048x8x64, .f32⟩ : BufTy).Contents (Elt F)),
    binary main_v0 main_v1 main_v3 ((fun l r => Host.dotGeneral dot_S2x2048x8x64_S2x2048x8x64_S2x8x2048x2048_3_3_1_1_02_02 none l r) : (⟨S2x2048x8x64, .f32⟩ : BufTy).Contents (Elt F) → (⟨S2x2048x8x64, .f32⟩ : BufTy).Contents (Elt F) → (⟨S2x8x2048x2048, .f32⟩ : BufTy).Contents (Elt F)),
    nullary main_cst (constant S_ .f32 0x3E000000#32),
    unary main_cst main_v4 (broadcastInDim S2x8x2048x2048 ![] bcast_S_S2x8x2048x2048 : (⟨S_, .f32⟩ : BufTy).Contents (Elt F) → (⟨S2x8x2048x2048, .f32⟩ : BufTy).Contents (Elt F)),
    binary main_v3 main_v4 main_v5 (mulf : (⟨S2x8x2048x2048, .f32⟩ : BufTy).Contents (Elt F) → (⟨S2x8x2048x2048, .f32⟩ : BufTy).Contents (Elt F) → (⟨S2x8x2048x2048, .f32⟩ : BufTy).Contents (Elt F)),
    nullary main_cst_0 (constant S_ .f32 0xFF800000#32),
    binary main_v5 main_cst_0 main_v6 ((fun x v => Host.reduce FloatOps.maximumf x v reducesTo_S2x8x2048x2048_S2x8x2048_d3 h_S_) : (⟨S2x8x2048x2048, .f32⟩ : BufTy).Contents (Elt F) → (⟨S_, .f32⟩ : BufTy).Contents (Elt F) → (⟨S2x8x2048, .f32⟩ : BufTy).Contents (Elt F)),
    unary main_v6 main_v7 (broadcastInDim S2x8x2048x1 ![0, 1, 2] bcast_S2x8x2048_S2x8x2048x1_0_1_2 : (⟨S2x8x2048, .f32⟩ : BufTy).Contents (Elt F) → (⟨S2x8x2048x1, .f32⟩ : BufTy).Contents (Elt F)),
    unary main_v7 main_v8 (broadcastInDim S2x8x2048x2048 ![0, 1, 2, 3] bcast_S2x8x2048x1_S2x8x2048x2048_0_1_2_3 : (⟨S2x8x2048x1, .f32⟩ : BufTy).Contents (Elt F) → (⟨S2x8x2048x2048, .f32⟩ : BufTy).Contents (Elt F)),
    binary main_v5 main_v8 main_v9 (subf : (⟨S2x8x2048x2048, .f32⟩ : BufTy).Contents (Elt F) → (⟨S2x8x2048x2048, .f32⟩ : BufTy).Contents (Elt F) → (⟨S2x8x2048x2048, .f32⟩ : BufTy).Contents (Elt F)),
    unary main_v9 main_v10 (Host.exp : (⟨S2x8x2048x2048, .f32⟩ : BufTy).Contents (Elt F) → (⟨S2x8x2048x2048, .f32⟩ : BufTy).Contents (Elt F)),
    nullary main_cst_1 (constant S_ .f32 0x00000000#32),
    binary main_v10 main_cst_1 main_v11 ((fun x v => Host.reduceAdd x v reducesTo_S2x8x2048x2048_S2x8x2048_d3 h_S_) : (⟨S2x8x2048x2048, .f32⟩ : BufTy).Contents (Elt F) → (⟨S_, .f32⟩ : BufTy).Contents (Elt F) → (⟨S2x8x2048, .f32⟩ : BufTy).Contents (Elt F)),
    unary main_v11 main_v12 (broadcastInDim S2x8x2048x1 ![0, 1, 2] bcast_S2x8x2048_S2x8x2048x1_0_1_2 : (⟨S2x8x2048, .f32⟩ : BufTy).Contents (Elt F) → (⟨S2x8x2048x1, .f32⟩ : BufTy).Contents (Elt F)),
    unary main_v12 main_v13 (broadcastInDim S2x8x2048x2048 ![0, 1, 2, 3] bcast_S2x8x2048x1_S2x8x2048x2048_0_1_2_3 : (⟨S2x8x2048x1, .f32⟩ : BufTy).Contents (Elt F) → (⟨S2x8x2048x2048, .f32⟩ : BufTy).Contents (Elt F)),
    binary main_v10 main_v13 main_v14 (Host.divf : (⟨S2x8x2048x2048, .f32⟩ : BufTy).Contents (Elt F) → (⟨S2x8x2048x2048, .f32⟩ : BufTy).Contents (Elt F) → (⟨S2x8x2048x2048, .f32⟩ : BufTy).Contents (Elt F)),
    binary main_v2 main_v14 main_v15 ((fun l r => Host.dotGeneral dot_S2x2048x8x64_S2x8x2048x2048_S2x8x64x2048_1_3_3_2_02_01 none l r) : (⟨S2x2048x8x64, .f32⟩ : BufTy).Contents (Elt F) → (⟨S2x8x2048x2048, .f32⟩ : BufTy).Contents (Elt F) → (⟨S2x8x64x2048, .f32⟩ : BufTy).Contents (Elt F)),
    unary main_v15 main_v16 ((transpose S2x2048x8x64 [0, 3, 1, 2] · transposes_S2x8x64x2048_S2x2048x8x64_0_3_1_2) : (⟨S2x8x64x2048, .f32⟩ : BufTy).Contents (Elt F) → (⟨S2x2048x8x64, .f32⟩ : BufTy).Contents (Elt F)) ]

/-- The program is its operations in order. -/
theorem main_eq (c : Dev nD) : main (F := F) c = seq ops := rfl

set_option maxHeartbeats 1000000 in
/-- The result buffer ends at the attention of the arguments; -/
theorem out_eq (V : Valuation τ sig (Elt F)) : after ops V (main_v16 : DevRef τ sig)
    = attn (V (main_arg0 : DevRef τ sig)) (V (main_arg1 : DevRef τ sig)) (V (main_arg2 : DevRef τ sig)) := by
  after_results
  rfl

/-- no operation writes the first argument, -/
theorem arg0_eq (V : Valuation τ sig (Elt F)) : after ops V (main_arg0 : DevRef τ sig) = V (main_arg0 : DevRef τ sig) := by
  after_results
/-- the second, -/
theorem arg1_eq (V : Valuation τ sig (Elt F)) : after ops V (main_arg1 : DevRef τ sig) = V (main_arg1 : DevRef τ sig) := by
  after_results
/-- or the third. -/
theorem arg2_eq (V : Valuation τ sig (Elt F)) : after ops V (main_arg2 : DevRef τ sig) = V (main_arg2 : DevRef τ sig) := by
  after_results

/-- No buffer is any kernel's own, -/
theorem no_scoped_refs : (Finset.univ.filter fun b : Ref sig .tc => b.isScoped) = ∅ := by decide
/-- no semaphore is, -/
theorem no_scoped_sems : (Finset.univ.filter fun sm : SemLoc sig => sm.isScoped .tc) = ∅ := by decide

/-- and the operations touch only the device's own buffers. -/
theorem ops_sub : (ops : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub ..⟩

/-- THE RUN of the reference: it terminates with the result at the attention of the arguments, the arguments unchanged and every
    semaphore at zero. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v16) = attn (m ((c.tc : Thread nD τ).loc main_arg0)) (m ((c.tc : Thread nD τ).loc main_arg1))
          (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run defs _ _).mono (fun r h => ⟨fun c => ⟨(h c main_v16).trans (out_eq _), (h c main_arg0).trans (arg0_eq _),
      (h c main_arg1).trans (arg1_eq _), (h c main_arg2).trans (arg2_eq _)⟩, sem_eq_zero_of_no_sems (by decide) r.2⟩)
    (run_seq no_scoped_refs no_scoped_sems defs main (fun _ => ops) main_eq (fun _ => ops_sub) m ρ)

end Cert.ReferenceIdeal.Run

end

end
-- ==== Proof.Frames.lean ====
/-
  The claims that say nothing of values: the programs run, end quiescent and leave their arguments alone, each read off its run
  theorem; and the one replaced constant, which the table of named constants gives the value the claim states.
-/
module

public import proofs.«01_k».proof.Defs
public import proofs.«01_k».proof.Proof.KernelRun
public import proofs.«01_k».proof.Proof.KernelIdealRun
public import proofs.«01_k».proof.Proof.ReferenceIdealRun

@[expose] public section

noncomputable section

namespace Cert.Proof

open Idealize.ShloMosaic Idealize.SL.Sem

/-- The kernel runs, its arguments unchanged, every semaphore at zero. -/
theorem frame_kernel : Cert.quiescent_Kernel := fun m ρ _ =>
  (θ_run Cert.Kernel.defs _ _).mono (fun _ h => ⟨fun c => (h.1 c).2, h.2⟩) (Cert.Kernel.Run.run_main (F := Bits) m ρ)

/-- So does the kernel read over the extended reals. -/
theorem frame_ideal : Cert.quiescent_KernelIdeal := fun m ρ _ =>
  (θ_run Cert.KernelIdeal.defs _ _).mono (fun _ h => ⟨fun c => (h.1 c).2, h.2⟩) (Cert.KernelIdeal.Run.run_main (F := Ideal) m ρ)

/-- So does the reference. -/
theorem frame_reference : Cert.quiescent_ReferenceIdeal := fun m ρ _ =>
  (θ_run Cert.ReferenceIdeal.defs _ _).mono (fun _ h => ⟨fun c => (h.1 c).2, h.2⟩) (Cert.ReferenceIdeal.Run.run_main (F := Ideal) m ρ)

/-- The named constant: the table gives it the value `1 / (8 · log 2)`. -/
theorem preserves : Cert.preserves_Kernel_KernelIdeal :=
  IdealRules.named_const.statement Cert.KernelIdeal.κ "score_scale" .f32 0x3E38AA3B#32 (((8 * (Real.log 2))⁻¹ : ℝ) : EReal) rfl

end Cert.Proof

end
-- ==== Proof.Softmax.lean ====
/-
  Attention over extended reals, as mathematics: scores that are real numbers, values that are any extended reals. The weighted
  sum of the values divided by the sum of the weights is the sum of the values each times its weight's share; the base of the
  exponential and the number subtracted from all scores do not matter, nor does the order of the summands.
-/
module

public import Idealize.ShloMosaic.PureOps.Ideal

@[expose] public section

noncomputable section

namespace Cert.Softmax

open Idealize.ShloMosaic

/-- The number −∞, as the programs spell it. -/
theorem bits_bot : Ideal.ofBits .f32 0xFF800000#32 = ⊥ := by simp [Ideal.ofBits, Ideal.ieee]

/-- The number +∞, as the programs spell it. -/
theorem bits_top : Ideal.ofBits .f32 0x7F800000#32 = ⊤ := by simp [Ideal.ofBits, Ideal.ieee]

/-- One eighth, as the programs spell it. -/
theorem bits_eighth : Ideal.ofBits .f32 0x3E000000#32 = ((1 / 8 : ℝ) : EReal) := by
  simp [Ideal.ofBits, Ideal.ieee, -EReal.coe_mul]; norm_num

variable {ι : Type*}

/-- A finite sum of reals is the same among the extended reals. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real factor that is not negative is multiplied into a sum of extended reals summand by summand. -/
theorem sum_mul (s : Finset ι) (f : ι → EReal) {x : ℝ} (hx : 0 ≤ x) : (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-- The greatest of some real numbers, one at least, is a real number. -/
theorem max_real [Fintype ι] [Nonempty ι] (f : ι → ℝ) : ∃ M : ℝ, Finset.univ.fold max ⊥ (fun i => (f i : EReal)) = (M : EReal) := by
  have htop : Finset.univ.fold max ⊥ (fun i => (f i : EReal)) < ⊤ :=
    (Finset.fold_max_lt _).mpr ⟨bot_lt_top, fun i _ => EReal.coe_lt_top _⟩
  have hbot : ⊥ < Finset.univ.fold max ⊥ (fun i => (f i : EReal)) :=
    (Finset.lt_fold_max _).mpr (Or.inr ⟨Classical.arbitrary ι, Finset.mem_univ _, EReal.bot_lt_coe _⟩)
  exact ⟨_, (EReal.coe_toReal htop.ne hbot.ne').symm⟩

/-- Two to the power `x / (8 · ln 2)` is the exponential of `x / 8`. -/
theorem exp2_scaled (x : ℝ) : Ideal.exp2 ((x : EReal) * (((8 * Real.log 2)⁻¹ : ℝ) : EReal)) = ((Real.exp (x / 8) : ℝ) : EReal) := by
  have h2 : Real.log 2 ≠ 0 := (Real.log_pos (by norm_num)).ne'
  rw [← EReal.coe_mul, Ideal.exp2_coe]
  congr 1
  show (2 : ℝ) ^ (x * (8 * Real.log 2)⁻¹) = _
  rw [Real.rpow_def_of_pos (by norm_num)]
  congr 1
  field_simp

/-- Attention with the exponential to base two of scaled scores and the division after the sum, the summands in the order that
    `π` takes them in, is attention with the greatest score subtracted and the division before the sum. -/
theorem attention [Fintype ι] [Nonempty ι] (π : ι ≃ ι) (x : ι → ℝ) (v : ι → EReal) :
    Ideal.div (∑ j, Ideal.exp2 ((x (π j) : EReal) * (((8 * Real.log 2)⁻¹ : ℝ) : EReal)) * v (π j))
        (∑ j, Ideal.exp2 ((x (π j) : EReal) * (((8 * Real.log 2)⁻¹ : ℝ) : EReal)))
      = ∑ t, v t * Ideal.div
          (Ideal.exp ((x t : EReal) * ((1 / 8 : ℝ) : EReal) - Finset.univ.fold max ⊥ (fun t => (x t : EReal) * ((1 / 8 : ℝ) : EReal))))
          (∑ t, Ideal.exp ((x t : EReal) * ((1 / 8 : ℝ) : EReal)
            - Finset.univ.fold max ⊥ (fun t => (x t : EReal) * ((1 / 8 : ℝ) : EReal)))) := by
  simp only [exp2_scaled]
  simp only [← EReal.coe_mul]
  obtain ⟨M, hM⟩ := max_real fun t => x t * (1 / 8)
  rw [hM, Equiv.sum_comp π (fun t => ((Real.exp (x t / 8) : ℝ) : EReal) * v t),
    Equiv.sum_comp π (fun t => ((Real.exp (x t / 8) : ℝ) : EReal))]
  simp only [← EReal.coe_sub, Ideal.exp_coe, coe_sum]
  have hL : 0 < ∑ t, Real.exp (x t / 8) := Finset.sum_pos (fun _ _ => Real.exp_pos _) Finset.univ_nonempty
  have hW : 0 < ∑ t, Real.exp (x t * (1 / 8) - M) := Finset.sum_pos (fun _ _ => Real.exp_pos _) Finset.univ_nonempty
  simp only [Ideal.div_coe hL.ne', Ideal.div_coe hW.ne', ← EReal.coe_mul]
  rw [sum_mul _ _ (by positivity)]
  refine Finset.sum_congr rfl fun t _ => ?_
  rw [mul_comm ((Real.exp (x t / 8) : ℝ) : EReal), mul_assoc, ← EReal.coe_mul]
  congr 2
  have hsum : ∑ t, Real.exp (x t * (1 / 8) - M) = (∑ t, Real.exp (x t / 8)) * (Real.exp M)⁻¹ := by
    rw [Finset.sum_mul]
    refine Finset.sum_congr rfl fun t _ => ?_
    rw [Real.exp_sub, div_eq_mul_inv (Real.exp _), mul_one_div]
  rw [hsum, Real.exp_sub, mul_one_div]
  have := Real.exp_pos M
  field_simp

end Cert.Softmax
-- ==== Proof.KernelIdealValue.lean ====
/-
  What the kernel leaves on one device, read at one index of the result: the weighted sum of the gathered values divided by the
  sum of the weights, over the 2048 gathered rows. A gathered row is a slot and a row within the slot.
-/
module

public import proofs.«01_k».proof.Proof.KernelIdealRun
public import proofs.«01_k».proof.Proof.Softmax
public import Idealize.ShloMosaic.Lib.Pointwise
public import Idealize.ShloMosaic.Lib.Pipeline.Value

@[expose] public section

set_option maxRecDepth 16384

noncomputable section

namespace Cert.KernelIdeal.Run

open Cert.KernelIdeal Cert.KernelIdeal.Gen Cert.Exchange
open Idealize.ShloMosaic Idealize.ShloMosaic.TcCoe

/-! ## The host's layouts -/

section Host
variable {F : FTy → Type} [FloatOps F] [Named F]
variable (m : (ℓ : Loc nD τ sig) → Buf (Elt F) ℓ)

/-- Heads before rows, the batch and the head in one number: how the host lays an argument out for the kernel. -/
def flat (x : Vec F S2x256x8x64 .bf16) : Vec F S16x256x64 .bf16 :=
  shapeCast S16x256x64 (transpose S2x8x256x64 [0, 2, 1, 3] x transposes_S2x256x8x64_S2x8x256x64_0_2_1_3) shapeCasts_S2x8x256x64_S16x256x64

/-- The kernel's queries are the laid-out argument; -/
theorem qOf_eq (c : Dev nD) : qOf m c = flat (m ((c.tc : Thread nD τ).loc main_arg0)) := by
  show StableHlo.after hostOps0 (fun b => m (c, b)) (Proc.devRef .tc main_v2) = _
  after_results
  rfl

/-- its keys and values are the two laid-out arguments, stacked; -/
theorem kvOf_eq (c : Dev nD) : kvOf m c
    = concatenate S16x2x256x64 1
        [⟨S16x1x256x64, broadcastInDim S16x1x256x64 ![0, 2, 3] bcast_S16x256x64_S16x1x256x64_0_2_3 (flat (m ((c.tc : Thread nD τ).loc main_arg1)))⟩,
         ⟨S16x1x256x64, broadcastInDim S16x1x256x64 ![0, 2, 3] bcast_S16x256x64_S16x1x256x64_0_2_3 (flat (m ((c.tc : Thread nD τ).loc main_arg2)))⟩]
        concatenates_S16x1x256x64_S16x1x256x64_S16x2x256x64_d1 := by
  show StableHlo.after hostOps0 (fun b => m (c, b)) (Proc.devRef .tc main_v9) = _
  after_results
  rfl

/-- the program's result is the kernel's, laid out as the arguments are. -/
theorem resOf_eq (c : Dev nD) : resOf m c
    = transpose S2x256x8x64 [0, 2, 1, 3] (shapeCast S2x8x256x64 (outOf m c) shapeCasts_S16x256x64_S2x8x256x64)
        transposes_S2x8x256x64_S2x256x8x64_0_2_1_3 := by
  show StableHlo.after hostOps1 (W₁ m c) (Proc.devRef .tc main_v12) = _
  after_results
  rw [W₁_out]
  rfl

/-- The number of a head of a batch, among all sixteen. -/
def bh (b : Fin 2) (h : Fin 8) : Fin 16 := ⟨b.val * 8 + h.val, by omega⟩

/-- The layout at an index. -/
theorem flat_apply (x : Vec F S2x256x8x64 .bf16) (b : Fin 2) (h : Fin 8) (r : Fin 256) (e : Fin 64) :
    flat x (ix3 (bh b h) r e) = x (ix4 b r h e) := by
  pointwise [flat, bh]

/-- The stacked keys at an index, -/
theorem key_apply (c : Dev nD) (b : Fin 2) (h : Fin 8) (r : Fin 256) (e : Fin 64) :
    kvOf m c (ix4 (bh b h) 0 r e) = m ((c.tc : Thread nD τ).loc main_arg1) (ix4 b r h e) := by
  rw [kvOf_eq]
  pointwise
  rw [flat_apply]

/-- the stacked values, -/
theorem val_apply (c : Dev nD) (b : Fin 2) (h : Fin 8) (r : Fin 256) (e : Fin 64) :
    kvOf m c (ix4 (bh b h) 1 r e) = m ((c.tc : Thread nD τ).loc main_arg2) (ix4 b r h e) := by
  rw [kvOf_eq]
  pointwise
  rw [flat_apply]

/-- and the result. -/
theorem res_apply (c : Dev nD) (b : Fin 2) (r : Fin 256) (h : Fin 8) (d : Fin 64) :
    resOf m c (ix4 b r h d) = outOf m c (ix3 (bh b h) r d) := by
  rw [resOf_eq]
  pointwise [bh]

end Host

/-! ## The gathered rows -/

section Rows
variable {F : FTy → Type} [FloatOps F] [Named F]

/-- The slot of a gathered row. -/
def slot (j : Fin 2048) : Fin 8 := ⟨j.val / 256, by omega⟩
/-- The row within the slot. -/
def within (j : Fin 2048) : Fin 256 := ⟨j.val % 256, by omega⟩

/-- Eight boxes of the gathered array, one per slot, as rows. -/
def box (g : Vec F S8x16x2x256x64 .bf16) (z : Fin 16) (τ : Fin 2) (σ : Fin 8) : FVec F S256x64 .bf16 :=
  fun i => g (ix5 σ z τ (i 0 : Fin 256) (i 1 : Fin 64))

/-- One box of the gathered array, read as rows. -/
theorem load_eq (g : Vec F S8x16x2x256x64 .bf16) (off : Fin 5 → ℕ) (inb) (z : Fin 16) (τ : Fin 2) (σ : Fin 8)
    (h : off = ![σ.val, z.val, τ.val, 0, 0]) :
    shapeCast S256x64 (gLd g off inb) shapeCasts_S1x1x1x256x64_S256x64 = box g z τ σ := by
  subst h
  funext i
  idx_vars i
  pointwise [gLd, box]
  congr 1
  funext a
  apply Fin.ext
  rw [Rect.emb_apply]
  fin_cases a <;> simp

/-- Eight boxes one after the other: a gathered row is in its slot's box. -/
theorem stack_apply (g : Vec F S8x16x2x256x64 .bf16) (z : Fin 16) (τ : Fin 2) (j : Fin 2048) (e : Fin 64) :
    concatenate S2048x64 0 [⟨S256x64, box g z τ 0⟩, ⟨S256x64, box g z τ 1⟩, ⟨S256x64, box g z τ 2⟩, ⟨S256x64, box g z τ 3⟩,
        ⟨S256x64, box g z τ 4⟩, ⟨S256x64, box g z τ 5⟩, ⟨S256x64, box g z τ 6⟩, ⟨S256x64, box g z τ 7⟩]
      concatenates_S256x64_S256x64_S256x64_S256x64_S256x64_S256x64_S256x64_S256x64_S2048x64_d0 (ix2 j e)
      = g (ix5 (slot j) z τ (within j) e) := by
  refine (concatenate_ofFn_apply (N := 8) (s₁ := S256x64) (t := S2048x64) 0 (box g z τ) _ rfl 256 rfl (ix2 j e) (slot j) rfl (ix2 (within j) e) rfl ?_).trans rfl
  intro b hb
  fin_cases b
  · exact absurd rfl hb
  · rfl

/-- The keys of trip `z`: the keys of head `z`, slot by slot; -/
theorem keyRows_apply (g : Vec F S8x16x2x256x64 .bf16) (k : Fin k0_t1_loop.trips) (z : Fin 16) (hz : k.val = z.val) (j : Fin 2048) (e : Fin 64) :
    keyRows g k (ix2 j e) = g (ix5 (slot j) z 0 (within j) e) := by
  rw [← stack_apply g z 0 j e]
  simp only [keyRows, k0_pay10, k0_pay3, k0_pay4, k0_pay5, k0_pay6, k0_pay7, k0_pay8, k0_pay9]
  rw [load_eq g (k0_off2 k) _ z 0 0 (by rw [k0_off2_eq, hz]; rfl), load_eq g (k0_off3 k) _ z 0 1 (by rw [k0_off3_eq, hz]; rfl),
    load_eq g (k0_off4 k) _ z 0 2 (by rw [k0_off4_eq, hz]; rfl), load_eq g (k0_off5 k) _ z 0 3 (by rw [k0_off5_eq, hz]; rfl),
    load_eq g (k0_off6 k) _ z 0 4 (by rw [k0_off6_eq, hz]; rfl), load_eq g (k0_off7 k) _ z 0 5 (by rw [k0_off7_eq, hz]; rfl),
    load_eq g (k0_off8 k) _ z 0 6 (by rw [k0_off8_eq, hz]; rfl), load_eq g (k0_off9 k) _ z 0 7 (by rw [k0_off9_eq, hz]; rfl)]

/-- and its values, the values of head `z`. -/
theorem valRows_apply (g : Vec F S8x16x2x256x64 .bf16) (k : Fin k0_t1_loop.trips) (z : Fin 16) (hz : k.val = z.val) (j : Fin 2048) (e : Fin 64) :
    valRows g k (ix2 j e) = g (ix5 (slot j) z 1 (within j) e) := by
  rw [← stack_apply g z 1 j e]
  simp only [valRows, k0_pay11]
  rw [load_eq g (k0_off10 k) _ z 1 0 (by rw [k0_off10_eq, hz]; rfl), load_eq g (k0_off11 k) _ z 1 1 (by rw [k0_off11_eq, hz]; rfl),
    load_eq g (k0_off12 k) _ z 1 2 (by rw [k0_off12_eq, hz]; rfl), load_eq g (k0_off13 k) _ z 1 3 (by rw [k0_off13_eq, hz]; rfl),
    load_eq g (k0_off14 k) _ z 1 4 (by rw [k0_off14_eq, hz]; rfl), load_eq g (k0_off15 k) _ z 1 5 (by rw [k0_off15_eq, hz]; rfl),
    load_eq g (k0_off16 k) _ z 1 6 (by rw [k0_off16_eq, hz]; rfl), load_eq g (k0_off17 k) _ z 1 7 (by rw [k0_off17_eq, hz]; rfl)]

/-- The queries of trip `z` are those of head `z`. -/
theorem queries_apply (q : Vec F S16x256x64 .bf16) (k : Fin k0_t1_loop.trips) (z : Fin 16) (hz : k.val = z.val) (r : Fin 256) (e : Fin 64) :
    k0_pay2 (qLd q k) (ix2 r e) = q (ix3 z r e) := by
  pointwise [k0_pay2, qLd]
  congr 1
  funext a
  apply Fin.ext
  rw [Rect.emb_apply]
  fin_cases a <;> simp [k0_off1_eq, hz]

end Rows

/-! ## The sixteen trips' result -/

/-- The number in place of the scores' scale: the reciprocal of eight times the logarithm of two. -/
theorem scale_eq : Named.named (F := Ideal) Cert.KernelIdeal.κ "score_scale" (φ := .f32) 0x3E38AA3B#32
    = (((8 * Real.log 2)⁻¹ : ℝ) : EReal) := IdealRules.named_const.ideal_named_scalar _ _ _ _ rfl

/-- One head: the weighted sum of the values divided by the sum of the weights. -/
theorem head_apply (q : FVec Ideal S256x64 .bf16) (k v : FVec Ideal S2048x64 .bf16) (r : Fin 256) (d : Fin 64) :
    k0_pay1 q k v (ix3 0 r d)
      = Ideal.div
          (∑ j : Fin 2048, Ideal.exp2 ((∑ e : Fin 64, q (ix2 r e) * k (ix2 j e)) * (((8 * Real.log 2)⁻¹ : ℝ) : EReal)) * v (ix2 j d))
          (∑ j : Fin 2048, Ideal.exp2 ((∑ e : Fin 64, q (ix2 r e) * k (ix2 j e)) * (((8 * Real.log 2)⁻¹ : ℝ) : EReal))) := by
  rw [← scale_eq]
  pointwise [k0_pay1]
  rfl

/-- The kernel's result at an index. -/
theorem outVal_apply (q : Vec Ideal S16x256x64 .bf16) (g : Vec Ideal S8x16x2x256x64 .bf16) (z : Fin 16) (r : Fin 256) (d : Fin 64) :
    outVal q g (ix3 z r d)
      = Ideal.div
          (∑ j : Fin 2048, Ideal.exp2 ((∑ e : Fin 64, q (ix3 z r e) * g (ix5 (slot j) z 0 (within j) e)) * (((8 * Real.log 2)⁻¹ : ℝ) : EReal))
            * g (ix5 (slot j) z 1 (within j) d))
          (∑ j : Fin 2048, Ideal.exp2 ((∑ e : Fin 64, q (ix3 z r e) * g (ix5 (slot j) z 0 (within j) e)) * (((8 * Real.log 2)⁻¹ : ℝ) : EReal))) := by
  have hk : (tripOf (ix3 z r d)).val = z.val := rfl
  have hi : inTrip (ix3 z r d) = ix3 0 r d := by funext a; fin_cases a <;> rfl
  show outRow q g (tripOf (ix3 z r d)) (inTrip (ix3 z r d)) = _
  rw [hi, outRow, head_apply]
  simp only [queries_apply q _ z hk, keyRows_apply g _ z hk, valRows_apply g _ z hk]

/-- Device `c`'s share of the queries, -/
def qIn (m : (ℓ : Loc nD τ sig) → Buf (Elt Ideal) ℓ) (c : Dev nD) : FVec Ideal S2x256x8x64 .bf16 := m ((c.tc : Thread nD τ).loc main_arg0)
/-- of the keys -/
def kIn (m : (ℓ : Loc nD τ sig) → Buf (Elt Ideal) ℓ) (c : Dev nD) : FVec Ideal S2x256x8x64 .bf16 := m ((c.tc : Thread nD τ).loc main_arg1)
/-- and of the values. -/
def vIn (m : (ℓ : Loc nD τ sig) → Buf (Elt Ideal) ℓ) (c : Dev nD) : FVec Ideal S2x256x8x64 .bf16 := m ((c.tc : Thread nD τ).loc main_arg2)

/-- Device `c`'s result at an index: its own queries against the keys of all devices, each device's in the slot that the exchange
    puts it in, and the values likewise. -/
theorem res_eq (m : (ℓ : Loc nD τ sig) → Buf (Elt Ideal) ℓ) (c : Dev nD) (b : Fin 2) (r : Fin 256) (h : Fin 8) (d : Fin 64) :
    resOf m c (ix4 b r h d)
      = Ideal.div
          (∑ j : Fin 2048, Ideal.exp2 ((∑ e : Fin 64, qIn m c (ix4 b r h e) * kIn m (xr c (slot j)) (ix4 b (within j) h e))
            * (((8 * Real.log 2)⁻¹ : ℝ) : EReal)) * vIn m (xr c (slot j)) (ix4 b (within j) h d))
          (∑ j : Fin 2048, Ideal.exp2 ((∑ e : Fin 64, qIn m c (ix4 b r h e) * kIn m (xr c (slot j)) (ix4 b (within j) h e))
            * (((8 * Real.log 2)⁻¹ : ℝ) : EReal))) := by
  have hq : ∀ e, qOf m c (ix3 (bh b h) r e) = qIn m c (ix4 b r h e) := fun e => by
    rw [qOf_eq, flat_apply]; rfl
  have hk : ∀ (c' : Dev nD) (s : Fin 256) (e : Fin 64), kvOf m c' (ix4 (bh b h) 0 s e) = kIn m c' (ix4 b s h e) :=
    fun c' s e => key_apply m c' b h s e
  have hv : ∀ (c' : Dev nD) (s : Fin 256) (e : Fin 64), kvOf m c' (ix4 (bh b h) 1 s e) = vIn m c' (ix4 b s h e) :=
    fun c' s e => val_apply m c' b h s e
  have hg : ∀ (σ : Fin 8) (τ : Fin 2) (s : Fin 256) (e : Fin 64),
      G (kvOf m) c (ix5 σ (bh b h) τ s e) = kvOf m (xr c σ) (ix4 (bh b h) τ s e) := fun σ τ s e => by
    show kvOf m (xr c σ) (tl (ix5 σ (bh b h) τ s e)) = _
    congr 1
    funext a; fin_cases a <;> rfl
  rw [res_apply, outOf, outVal_apply]
  simp only [hq, hg, hk, hv]

end Cert.KernelIdeal.Run
-- ==== Proof.ReferenceIdealValue.lean ====
/-
  What the reference computes, read at one index of its result: the sum over the rows of keys of the value times its weight's
  share of the row's weights.
-/
module

public import proofs.«01_k».proof.Proof.ReferenceIdealRun
public import proofs.«01_k».proof.Proof.Softmax
public import Idealize.ShloMosaic.Lib.Pointwise

@[expose] public section

set_option maxRecDepth 16384

noncomputable section

namespace Cert.ReferenceIdeal.Run

open Cert.ReferenceIdeal Cert.ReferenceIdeal.Gen
open Idealize.ShloMosaic

/-- The product of query row `s` and key row `t` of head `h` in batch `b`. -/
def dotAt (q k : FVec Ideal S2x2048x8x64 .bf16) (b : Fin 2) (h : Fin 8) (s t : Fin 2048) : EReal :=
  ∑ e : Fin 64, q (ix4 b s h e) * k (ix4 b t h e)

/-- A score is the product of its rows, times one eighth. -/
theorem scores_apply (q k : FVec Ideal S2x2048x8x64 .bf16) (b : Fin 2) (h : Fin 8) (s t : Fin 2048) :
    scores q k (ix4 b h s t) = dotAt q k b h s t * ((1 / 8 : ℝ) : EReal) := by
  pointwise [scores, dotAt]
  simp [Softmax.bits_eighth]

/-- A weight is the exponential of the score less the greatest score of its row. -/
theorem weights_apply (x : FVec Ideal S2x8x2048x2048 .f32) (b : Fin 2) (h : Fin 8) (s t : Fin 2048) :
    weights x (ix4 b h s t)
      = Ideal.exp (x (ix4 b h s t) - Finset.univ.fold max ⊥ fun t : Fin 2048 => x (ix4 b h s t)) := by
  pointwise [weights, spread]
  simp [Softmax.bits_bot]

/-- A share is the weight divided by the sum of its row's weights. -/
theorem probs_apply (x : FVec Ideal S2x8x2048x2048 .f32) (b : Fin 2) (h : Fin 8) (s t : Fin 2048) :
    probs x (ix4 b h s t) = Ideal.div (x (ix4 b h s t)) (∑ t : Fin 2048, x (ix4 b h s t)) := by
  pointwise [probs, spread]

/-- A result is the sum of the values of its column, each times its share. -/
theorem attn_apply (q k v : FVec Ideal S2x2048x8x64 .bf16) (b : Fin 2) (s : Fin 2048) (h : Fin 8) (d : Fin 64) :
    attn q k v (ix4 b s h d)
      = ∑ t : Fin 2048, v (ix4 b t h d) * probs (weights (scores q k)) (ix4 b h s t) := by
  pointwise [attn]

end Cert.ReferenceIdeal.Run
-- ==== Proof.Algebraic.lean ====
/-
  The value claim: on finite queries and keys, each device's result over the extended reals is its block of the reference's
  result. Both are read at one index; the gathered rows that a device reads are the rows of the whole arrays in another order.
-/
module

public import proofs.«01_k».proof.Defs
public import proofs.«01_k».proof.Proof.KernelIdealValue
public import proofs.«01_k».proof.Proof.ReferenceIdealValue

@[expose] public section

set_option maxRecDepth 16384

noncomputable section

namespace Cert.Proof

open Idealize.ShloMosaic Idealize.ShloMosaic.TcCoe Idealize.SL.Sem
open Cert.KernelIdeal.Run Cert.ReferenceIdeal.Run Cert.Exchange

/-! ## Rows of the whole arrays -/

/-- Row `r` of device `c`'s block, among all rows. -/
def row (c : Fin 8) (r : Fin 256) : Fin 2048 := ⟨c.val * 256 + r.val, by omega⟩

/-- The slot of a row of device `c` is `c`, -/
theorem slot_row (c : Fin 8) (r : Fin 256) : slot (row c r) = c := by
  apply Fin.ext; simp only [slot, row]; omega
/-- the row within it is the row of the block, -/
theorem within_row (c : Fin 8) (r : Fin 256) : within (row c r) = r := by
  apply Fin.ext; simp only [within, row]; omega
/-- and the two make up the row. -/
theorem row_slot (t : Fin 2048) : row (slot t) (within t) = t := by
  apply Fin.ext; simp only [slot, within, row]; omega

/-- Which row of the whole arrays device `c` holds as its gathered row `j`; a bijection, its own inverse. -/
def order (c : Fin 8) : Fin 2048 ≃ Fin 2048 :=
  Function.Involutive.toPerm (fun j => row (xr c (slot j)) (within j)) fun j => by
    show row (xr c (slot (row _ _))) (within (row _ _)) = j
    rw [slot_row, within_row, xr_xr, row_slot]

/-- The order, spelt out. -/
theorem order_apply (c : Fin 8) (j : Fin 2048) : order c j = row (xr c (slot j)) (within j) := rfl

/-- A device's block of a whole array, at an index. -/
theorem block_at {α : Type} (x : (⟨4, ![2, 2048, 8, 64]⟩ : Shape).Idx → α) (c : Fin 8) (b : Fin 2) (r : Fin 256) (h : Fin 8) (e : Fin 64) :
    Layout.block ⟨4, ![2, 256, 8, 64]⟩ ⟨4, ![2, 2048, 8, 64]⟩ 1 8 c x (by decide) (ix4 b r h e) = x (ix4 b (row c r) h e) := by
  show x _ = x _
  congr 1
  funext a
  fin_cases a <;> rfl

/-! ## Finite numbers -/

/-- A number whose absolute value is below +∞ is a real number. -/
theorem real_of_lt (x : EReal) (h : BitVec.ofBool (decide (max x (-x) < Ideal.ofBits .f32 0x7F800000#32)) = 1#1) :
    ∃ y : ℝ, x = (y : EReal) := by
  have hlt : max x (-x) < ⊤ := by
    by_contra hn
    rw [Softmax.bits_top, decide_eq_false hn] at h
    exact absurd h (by decide)
  induction x using EReal.rec with
  | bot => simp at hlt
  | coe y => exact ⟨y, rfl⟩
  | top => simp at hlt

section
variable [Cert.Pre_finite_scores_KernelIdeal.Facts]
variable (m : (ℓ : Loc Cert.KernelIdeal.nD Cert.KernelIdeal.τ Cert.KernelIdeal.sig) → Buf (Elt Ideal) ℓ)

/-- The precondition says that the queries are real numbers, -/
theorem q_real (hp : Cert.Pre_KernelIdeal_finite_scores_KernelIdeal m) (c : Fin 8) (i : Cert.KernelIdeal.S2x256x8x64.Idx) :
    ∃ y : ℝ, qIn m c i = (y : EReal) := by
  have h := congrFun (hp c).1 i
  pointwise [Cert.Pre_finite_scores_KernelIdeal.fn] at h
  exact real_of_lt _ h

/-- and the keys. -/
theorem k_real (hp : Cert.Pre_KernelIdeal_finite_scores_KernelIdeal m) (c : Fin 8) (i : Cert.KernelIdeal.S2x256x8x64.Idx) :
    ∃ y : ℝ, kIn m c i = (y : EReal) := by
  have h := congrFun (hp c).2 i
  pointwise [Cert.Pre_finite_scores_KernelIdeal.fn] at h
  exact real_of_lt _ h

/-- A sum of products of real numbers is a real number. -/
theorem dot_real (f g : Fin 64 → EReal) (hf : ∀ e, ∃ y : ℝ, f e = (y : EReal)) (hg : ∀ e, ∃ y : ℝ, g e = (y : EReal)) :
    ∃ y : ℝ, ∑ e, f e * g e = (y : EReal) := by
  choose f' hf' using hf
  choose g' hg' using hg
  exact ⟨∑ e, f' e * g' e, by simp only [hf', hg', ← EReal.coe_mul, Softmax.coe_sum]⟩

/-! ## The two results -/

/-- Each device's result is its block of the reference's. -/
theorem value_eq (hp : Cert.Pre_KernelIdeal_finite_scores_KernelIdeal m) (q k v : FVec Ideal Cert.ReferenceIdeal.S2x2048x8x64 .bf16)
    (hq : ∀ c, qIn m c = Layout.block ⟨4, ![2, 256, 8, 64]⟩ ⟨4, ![2, 2048, 8, 64]⟩ 1 8 c q)
    (hk : ∀ c, kIn m c = Layout.block ⟨4, ![2, 256, 8, 64]⟩ ⟨4, ![2, 2048, 8, 64]⟩ 1 8 c k)
    (hv : ∀ c, vIn m c = Layout.block ⟨4, ![2, 256, 8, 64]⟩ ⟨4, ![2, 2048, 8, 64]⟩ 1 8 c v) (c : Fin 8) :
    resOf m c = Layout.block ⟨4, ![2, 256, 8, 64]⟩ ⟨4, ![2, 2048, 8, 64]⟩ 1 8 c (attn q k v) := by
  have hq' : ∀ c b r h e, qIn m c (ix4 b r h e) = q (ix4 b (row c r) h e) := fun c b r h e => by rw [hq c]; exact block_at q c b r h e
  have hk' : ∀ c b r h e, kIn m c (ix4 b r h e) = k (ix4 b (row c r) h e) := fun c b r h e => by rw [hk c]; exact block_at k c b r h e
  have hv' : ∀ c b r h e, vIn m c (ix4 b r h e) = v (ix4 b (row c r) h e) := fun c b r h e => by rw [hv c]; exact block_at v c b r h e
  have hx : ∀ b h s t, ∃ y : ℝ, dotAt q k b h s t = (y : EReal) := fun b h s t =>
    dot_real (fun e => q (ix4 b s h e)) (fun e => k (ix4 b t h e))
      (fun e => by have := q_real m hp (slot s) (ix4 b (within s) h e); rwa [hq', row_slot] at this)
      (fun e => by have := k_real m hp (slot t) (ix4 b (within t) h e); rwa [hk', row_slot] at this)
  choose x hx using hx
  funext i
  obtain ⟨b, r, h, d, rfl⟩ : ∃ (b : Fin 2) (r : Fin 256) (h : Fin 8) (d : Fin 64), i = ix4 b r h d :=
    ⟨i 0, i 1, i 2, i 3, eq_ix4 i⟩
  rw [res_eq, block_at, attn_apply]
  have hdot : ∀ j, ∑ e : Fin 64, qIn m c (ix4 b r h e) * kIn m (xr c (slot j)) (ix4 b (within j) h e)
      = (x b h (row c r) (order c j) : EReal) := fun j => by
    rw [← hx]
    simp only [dotAt, hq', hk', order_apply]
  simp only [hdot, hv', ← order_apply, probs_apply, weights_apply, scores_apply, hx]
  exact Softmax.attention (order c) (fun t => x b h (row c r) t) (fun t => v (ix4 b t h d))

end

/-- THE VALUE CLAIM: both programs run, the reference leaves the attention of the whole arrays, and each device of the kernel its
    block of that; the arguments of both are unchanged. -/
theorem algebraic [Cert.Pre_finite_scores_KernelIdeal.Facts] :
    Cert.algebraic_KernelIdeal_ReferenceIdeal_pre_finite_scores_KernelIdeal := by
  intro m g m' g' hp harg
  refine ⟨attn (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨(h.1 c).1.trans ?_, (h.1 c).2⟩) (Cert.KernelIdeal.Run.run_main (F := Ideal) m g)
    exact value_eq m hp _ _ _ (fun c => (harg c).1) (fun c => (harg c).2.1) (fun c => (harg c).2.2) c
  · exact (θ_run Cert.ReferenceIdeal.defs _ _).mono (fun r h => h.1 0) (Cert.ReferenceIdeal.Run.run_main (F := Ideal) m' g')

end Cert.Proof
-- ==== Proof.lean ====
/-
  The proof of `Cert.Claim`: the witnesses of what the programs and the precondition state of themselves, and the claims in order.
-/
module

public import proofs.«01_k».proof.Defs
public import proofs.«01_k».proof.Proof.Frames
public import proofs.«01_k».proof.Proof.Algebraic

@[expose] public section

noncomputable section

namespace Cert.Proof

/-- What the precondition states of itself, on a device's block, -/
theorem facts_block : Cert.Pre_finite_scores_KernelIdeal.Facts := ⟨by decide, by decide⟩
/-- and on the whole arrays. -/
theorem facts_whole : Cert.Pre_finite_scores_ReferenceIdeal.Facts := ⟨by decide, by decide⟩

/-- Everything the certificate claims. The two frames under the precondition are the unconditional ones. -/
theorem claim : Cert.Claim :=
  ⟨Cert.Kernel.Gen.facts, Cert.KernelIdeal.Gen.facts, Cert.ReferenceIdeal.Gen.facts, facts_block, facts_whole,
    frame_kernel, frame_ideal, fun m ρ _ => frame_ideal m ρ trivial, frame_reference, fun m ρ _ => frame_reference m ρ trivial,
    preserves, @algebraic facts_block⟩

end Cert.Proof

end
